-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S3x2x128x256 : Shape := ⟨4, ![3, 2, 128, 256]⟩
abbrev S3x2 : Shape := ⟨2, ![3, 2]⟩
abbrev S_ : Shape := ⟨0, ![]⟩
abbrev S256x16 : Shape := ⟨2, ![256, 16]⟩
abbrev S256 : Shape := ⟨1, ![256]⟩
abbrev S1x128x256 : Shape := ⟨3, ![1, 128, 256]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1x1x128x256 : Shape := ⟨4, ![1, 1, 128, 256]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .f32⟩
  | .local _ .vmem, ⟨0, _⟩ => ⟨S256x128, .bf16⟩
  | .local _ .vmem, ⟨1, _⟩ => ⟨S128x16, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .f32⟩
  | .local _ .vmem, ⟨6, _⟩ => ⟨S3x2x128x256, .bf16⟩
  | .local _ .vmem, ⟨7, _⟩ => ⟨S3x2x128x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v84 : BitVec 32 := Scalar.xori v2 c1_i32_33
  let c1_i32_42 : BitVec 32 := 1#32
  let v85 : BitVec 32 := Scalar.muli v84 c1_i32_42
  let v86 : BitVec 32 := Scalar.addi c0_i32_43 v85
  v86.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v142 : BitVec 32 := Scalar.xori v2 c1_i32_61
  let c1_i32_70 : BitVec 32 := 1#32
  let v143 : BitVec 32 := Scalar.muli v142 c1_i32_70
  let v144 : BitVec 32 := Scalar.addi c0_i32_71 v143
  v144.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v178 : BitVec 32 := Scalar.xori v2 c3_i32_114
  let c1_i32_123 : BitVec 32 := 1#32
  let v179 : BitVec 32 := Scalar.muli v178 c1_i32_123
  let v180 : BitVec 32 := Scalar.addi c0_i32_124 v179
  v180.toNat
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_164 : BitVec 32 := 3#32
  let v211 : BitVec 32 := Scalar.xori v2 c3_i32_164
  let c1_i32_173 : BitVec 32 := 1#32
  let v212 : BitVec 32 := Scalar.muli v211 c1_i32_173
  let v213 : BitVec 32 := Scalar.addi c0_i32_174 v212
  v213.toNat
def k0_dev8 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_213 : BitVec 32 := 4#32
  let v244 : BitVec 32 := Scalar.xori v2 c4_i32_213
  let c1_i32_222 : BitVec 32 := 1#32
  let v245 : BitVec 32 := Scalar.muli v244 c1_i32_222
  let v246 : BitVec 32 := Scalar.addi c0_i32_223 v245
  v246.toNat
def k0_dev9 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_263 : BitVec 32 := 4#32
  let v277 : BitVec 32 := Scalar.xori v2 c4_i32_263
  let c1_i32_272 : BitVec 32 := 1#32
  let v278 : BitVec 32 := Scalar.muli v277 c1_i32_272
  let v279 : BitVec 32 := Scalar.addi c0_i32_273 v278
  v279.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S128x256 : Shape := ⟨2, ![128, 256]⟩
abbrev S256x16 : Shape := ⟨2, ![256, 16]⟩
abbrev S_ : Shape := ⟨0, ![]⟩
abbrev S256 : Shape := ⟨1, ![256]⟩
abbrev S256x256 : Shape := ⟨2, ![256, 256]⟩
abbrev S256x1x1 : Shape := ⟨3, ![256, 1, 1]⟩
abbrev S256x128x256 : Shape := ⟨3, ![256, 128, 256]⟩

abbrev nBuf : Space → Nat
  | .hbm => 54
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S16x128x256, .bf16⟩
  | .hbm, ⟨4, _⟩ => ⟨S128x256, .bf16⟩
  | .hbm, ⟨5, _⟩ => ⟨S256x128, .f32⟩
  | .hbm, ⟨6, _⟩ => ⟨S128x16, .f32⟩
  | .hbm, ⟨7, _⟩ => ⟨S16x128x256, .f32⟩
  | .hbm, ⟨8, _⟩ => ⟨S128x256, .f32⟩
  | .hbm, ⟨9, _⟩ => ⟨S256x16, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x16, .f32⟩
  | .hbm, ⟨14, _⟩ => ⟨S256x16, .f32⟩
  | .hbm, ⟨15, _⟩ => ⟨S256x16, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x16, .f32⟩
  | .hbm, ⟨20, _⟩ => ⟨S256x16, .f32⟩
  | .hbm, ⟨21, _⟩ => ⟨S256x256, .f32⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S256x1, .i1⟩
  | .hbm, ⟨29, _⟩ => ⟨S_, .i32⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S256x1x1, .i32⟩
  | .hbm, ⟨41, _⟩ => ⟨S256x1, .f32⟩
  | .hbm, ⟨42, _⟩ => ⟨S256, .i32⟩
  | .hbm, ⟨43, _⟩ => ⟨S256x1, .i32⟩
  | .hbm, ⟨44, _⟩ => ⟨S256x128x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S_, .f32⟩
  | .hbm, ⟨50, _⟩ => ⟨S256x256, .i1⟩
  | .hbm, ⟨51, _⟩ => ⟨S256x256, .f32⟩
  | .hbm, ⟨52, _⟩ => ⟨S256x256, .f32⟩
  | .hbm, ⟨53, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.Protocol.lean ====
/-
# The exchange between the eight devices

Each device adds up the part of the result its own two experts give, then exchanges running sums with three
partners, one after the other: the devices whose numbers differ from its own by the bit patterns 1, 3 and 4. Both
row halves travel on channels of their own, so there are six channels: step `s` in `0, 1, 2` and half `h` in `0, 1`.

Who waits for what:
* the barrier semaphore of a device gets one unit from each partner; with its unit, partner `s` hands over its two
  landing slots of step `s`;
* the send semaphore of a channel gets the size of one slot when the device's own copy has been read; the staged slot
  comes back with it;
* the receive semaphore of a channel gets the same amount when the partner's copy has landed; the landing slot comes
  back with it, holding the partner's running sum.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own round bookkeeping: a cell's payments are named by the step. -/
abbrev UB : Type := URounds (GSem nD τ sig) (Fin 3)
/-- Beside it, the bookkeeping of the copies that bring the operands in and the result out. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Partners -/

/-- The bit pattern of a step. -/
def mask : Fin 3 → ℕ := fun | 0 => 1 | 1 => 3 | 2 => 4

set_option backward.proofsInPublic true in
/-- The partner of device `c` at step `s`. -/
def peer (s : Fin 3) (c : Dev nD) : Dev nD := ⟨(c.val ^^^ mask s) % 8, Nat.mod_lt _ (by decide)⟩

theorem peer_peer (s : Fin 3) (c : Dev nD) : peer s (peer s c) = c := by revert s c; decide

/-- Going to the partner is a rearrangement of the devices. -/
def swap (s : Fin 3) : Dev nD ≃ Dev nD := ⟨peer s, peer s, peer_peer s, peer_peer s⟩

theorem dev1_eq (c : Dev nD) : (⟨k0_dev1 c, k0_dev1_lt c⟩ : Dev nD) = peer 0 c := Fin.ext (by revert c; decide +kernel)
theorem dev2_eq (c : Dev nD) : (⟨k0_dev2 c, k0_dev2_lt c⟩ : Dev nD) = peer 1 c := Fin.ext (by revert c; decide +kernel)
theorem dev3_eq (c : Dev nD) : (⟨k0_dev3 c, k0_dev3_lt c⟩ : Dev nD) = peer 2 c := Fin.ext (by revert c; decide +kernel)
theorem dev4_eq (c : Dev nD) : (⟨k0_dev4 c, k0_dev4_lt c⟩ : Dev nD) = peer 0 c := Fin.ext (by revert c; decide +kernel)
theorem dev5_eq (c : Dev nD) : (⟨k0_dev5 c, k0_dev5_lt c⟩ : Dev nD) = peer 0 c := Fin.ext (by revert c; decide +kernel)
theorem dev6_eq (c : Dev nD) : (⟨k0_dev6 c, k0_dev6_lt c⟩ : Dev nD) = peer 1 c := Fin.ext (by revert c; decide +kernel)
theorem dev7_eq (c : Dev nD) : (⟨k0_dev7 c, k0_dev7_lt c⟩ : Dev nD) = peer 1 c := Fin.ext (by revert c; decide +kernel)
theorem dev8_eq (c : Dev nD) : (⟨k0_dev8 c, k0_dev8_lt c⟩ : Dev nD) = peer 2 c := Fin.ext (by revert c; decide +kernel)
theorem dev9_eq (c : Dev nD) : (⟨k0_dev9 c, k0_dev9_lt c⟩ : Dev nD) = peer 2 c := Fin.ext (by revert c; decide +kernel)

/-! ## Semaphores and their cells -/

abbrev barS : Sem sig := (SemArray.scalar (sig.barrier 0 rfl) : Sems sig S_).sem

set_option backward.proofsInPublic true in
/-- The send semaphore of channel `(s, h)`. -/
def sendS (s : Fin 3) (h : Fin 2) : DmaSem sig := ⟨6 + (2 * s.val + h.val), by have := s.isLt; have := h.isLt; show _ < 18; omega⟩
set_option backward.proofsInPublic true in
/-- The receive semaphore of channel `(s, h)`. -/
def recvS (s : Fin 3) (h : Fin 2) : DmaSem sig := ⟨12 + (2 * s.val + h.val), by have := s.isLt; have := h.isLt; show _ < 18; omega⟩

abbrev barCell (c : Dev nD) : GSem nD τ sig := ((c : Thread nD τ), .reg barS)
abbrev sendCell (s : Fin 3) (h : Fin 2) (c : Dev nD) : GSem nD τ sig := ((c : Thread nD τ), .dma (sendS s h))
abbrev recvCell (s : Fin 3) (h : Fin 2) (c : Dev nD) : GSem nD τ sig := ((c : Thread nD τ), .dma (recvS s h))

/-- What a semaphore is for. -/
inductive Role where
  | bar
  | send (s : Fin 3) (h : Fin 2)
  | recv (s : Fin 3) (h : Fin 2)
  | other

set_option backward.proofsInPublic true in
/-- Read off a semaphore's position. -/
def role : SemLoc sig → Role
  | .reg _ => .bar
  | .dma q =>
    if 12 ≤ q.val then .recv ⟨(q.val - 12) / 2 % 3, Nat.mod_lt _ (by decide)⟩ ⟨(q.val - 12) % 2, Nat.mod_lt _ (by decide)⟩
    else if 6 ≤ q.val then .send ⟨(q.val - 6) / 2 % 3, Nat.mod_lt _ (by decide)⟩ ⟨(q.val - 6) % 2, Nat.mod_lt _ (by decide)⟩
    else .other

theorem role_send (s : Fin 3) (h : Fin 2) : role (.dma (sendS s h)) = .send s h := by fin_cases s <;> fin_cases h <;> rfl
theorem role_recv (s : Fin 3) (h : Fin 2) : role (.dma (recvS s h)) = .recv s h := by fin_cases s <;> fin_cases h <;> rfl

/-! ## Slots -/

abbrev commB : Memref sig .tc .vmem S3x2x128x256 .bf16 := Memref.whole cc0_scratch0
abbrev sendB : Memref sig .tc .vmem S3x2x128x256 .bf16 := Memref.whole cc0_scratch1

theorem slot_inb (s : Fin 3) (h : Fin 2) : ∀ a, (![s.val, h.val, 0, 0] : Fin 4 → Nat) a + S1x1x128x256.size a ≤ S3x2x128x256.size a := by
  revert s h; decide

/-- The box of slot `(s, h)` in either exchange buffer. -/
abbrev slot (s : Fin 3) (h : Fin 2) : Rect S3x2x128x256 := Rect.unit (s := S3x2x128x256) ![s.val, h.val, 0, 0] S1x1x128x256.size (slot_inb s h)

/-- The landing slot of channel `(s, h)`, and the slot its outgoing copy is staged in. -/
abbrev commM (s : Fin 3) (h : Fin 2) : Memref sig .tc .vmem S128x256 .bf16 := (commB.slice (slot s h) (fun _ => rfl)).squeeze S128x256 squeezes_S1x1x128x256_S128x256
abbrev sendM (s : Fin 3) (h : Fin 2) : Memref sig .tc .vmem S128x256 .bf16 := (sendB.slice (slot s h) (fun _ => rfl)).squeeze S128x256 squeezes_S1x1x128x256_S128x256

/-- The amount a slot's copy counts. -/
abbrev N : ℕ := (commM 0 0).view.dmaCredit
theorem N_pos : 0 < N := View.dmaCredit_pos _ (by decide)

/-- Device `c` holds its landing slot `(s, h)` at contents `f`; -/
def commPts (s : Fin 3) (h : Fin 2) (c : Dev nD) (f : Buf (Elt F) ((commM s h).view.loc (c : Thread nD τ))) : sProp 𝕄 :=
  (commM s h).view.loc (c : Thread nD τ) ↦[(commM s h).view.set]{fullShare} f
/-- its staging slot. -/
def sendPts (s : Fin 3) (h : Fin 2) (c : Dev nD) (f : Buf (Elt F) ((sendM s h).view.loc (c : Thread nD τ))) : sProp 𝕄 :=
  (sendM s h).view.loc (c : Thread nD τ) ↦[(sendM s h).view.set]{fullShare} f

omit [FloatOps F] in
instance commPts_storable (s : Fin 3) (h : Fin 2) (c : Dev nD) (f) : BI.Storable (upEmb : UEmb _ 𝕄) (commPts (F := F) s h c f) := by unfold commPts; infer_instance
omit [FloatOps F] in
instance sendPts_storable (s : Fin 3) (h : Fin 2) (c : Dev nD) (f) : BI.Storable (upEmb : UEmb _ 𝕄) (sendPts (F := F) s h c f) := by unfold sendPts; infer_instance

/-! ## Contents -/

/-- What the five operand buffers hold after the operands are brought in. -/
def inX (c : Dev nD) : (cc0_stg0_0 : Ref sig .tc).ty.Contents (Elt F) := (win0_0.blk (0 : Fin 1)).view.read (Elt F) (m ((c : Thread nD τ).loc main_arg0))
def inR (c : Dev nD) : (cc0_stg1_0 : Ref sig .tc).ty.Contents (Elt F) := (win0_1.blk (0 : Fin 1)).view.read (Elt F) (m ((c : Thread nD τ).loc main_arg1))
def inI (c : Dev nD) : (cc0_stg2_0 : Ref sig .tc).ty.Contents (Elt F) := (win0_2.blk (0 : Fin 1)).view.read (Elt F) (m ((c : Thread nD τ).loc main_arg2))
def inE (c : Dev nD) : (cc0_stg3_0 : Ref sig .tc).ty.Contents (Elt F) := (win0_3.blk (0 : Fin 1)).view.read (Elt F) (m ((c : Thread nD τ).loc main_arg3))
def inS (c : Dev nD) : (cc0_stg4_0 : Ref sig .tc).ty.Contents (Elt F) := (win0_4.blk (0 : Fin 1)).view.read (Elt F) (m ((c : Thread nD τ).loc main_arg4))

/-- The device's number as the program computes it. -/
def devWord (c : Dev nD) : BitVec 32 := Scalar.remsi (Scalar.divsi (Dev.word c) 1#32) 8#32
/-- The column numbers of a score row. -/
def cols : IVec S256x16 32 := iota .tc S256x16 32 [1] iota_S256x16_d1_w32

/-- The device's own part of the result, by row half. -/
def part : Fin 2 → Dev nD → FVec F S128x256 .f32
  | 0, c => k0_pay6 (devWord c) (k0_pay2 (inX m c)) (k0_pay3 (inX m c) (inR m c)) (k0_pay4 (inI m c)) cols (inE m c)
  | 1, c => k0_pay13 (devWord c) (k0_pay3 (inX m c) (inR m c)) (k0_pay4 (inI m c)) cols (k0_pay8 (k0_pay2 (inX m c)) (k0_pay5 (inE m c))) k0_pay9
      (k0_pay10 (devWord c) (k0_pay3 (inX m c) (inR m c)) cols) (k0_pay11 (k0_pay4 (inI m c))) (k0_pay12 (devWord c))

/-- A running sum as it travels. -/
def pack (v : FVec F S128x256 .f32) : FVec F S128x256 .bf16 := truncf .bf16 v bitsLt_bf16_f32
/-- A running sum with what arrived added. -/
def join (v : FVec F S128x256 .f32) (w : FVec F S128x256 .bf16) : FVec F S128x256 .f32 := addf v (extf .f32 w bitsLt_bf16_f32)

/-- The running sum of device `c` for half `h` before step `s`, and after the last. -/
def acc : Fin 4 → Fin 2 → Dev nD → FVec F S128x256 .f32
  | 0, h, c => part m h c
  | 1, h, c => join (part m h c) (pack (part m h (peer 0 c)))
  | 2, h, c => join (join (part m h c) (pack (part m h (peer 0 c))))
      (pack (join (part m h (peer 1 c)) (pack (part m h (peer 0 (peer 1 c))))))
  | 3, h, c => join (join (join (part m h c) (pack (part m h (peer 0 c))))
        (pack (join (part m h (peer 1 c)) (pack (part m h (peer 0 (peer 1 c)))))))
      (pack (join (join (part m h (peer 2 c)) (pack (part m h (peer 0 (peer 2 c)))))
        (pack (join (part m h (peer 1 (peer 2 c))) (pack (part m h (peer 0 (peer 1 (peer 2 c)))))))))

/-- What travels from device `c` on channel `(s, h)`. -/
def sent (s : Fin 3) (h : Fin 2) (c : Dev nD) : FVec F S128x256 .bf16 := pack (acc m s.castSucc h c)

theorem acc_succ (s : Fin 3) (h : Fin 2) (c : Dev nD) : acc m s.succ h c = join (acc m s.castSucc h c) (sent m s h (peer s c)) := by
  fin_cases s <;> rfl

/-- The shared expert's product. -/
def shared (c : Dev nD) : FVec F S256x256 .f32 := k0_pay15 (k0_pay2 (inX m c)) (inS m c)

/-! ## The schedule -/

/-- With its unit, partner `s` of device `c` hands over its landing slots of step `s`. -/
def barPay (c : Dev nD) (s : Fin 3) : sProp 𝕄 := iprop((∃ f, commPts s 0 (peer s c) f) ∗ ∃ f, commPts s 1 (peer s c) f)
/-- The staged slot back. -/
def sendPay (s : Fin 3) (h : Fin 2) (c : Dev nD) : sProp 𝕄 := iprop(∃ f, sendPts s h c f)
/-- The landing slot, holding the partner's running sum. -/
def recvPay (s : Fin 3) (h : Fin 2) (c : Dev nD) : sProp 𝕄 :=
  iprop(∃ f, ⌜(commM s h).view.read (Elt F) f = sent m s h (peer s c)⌝ ∗ commPts s h c f)

omit [FloatOps F] in
instance barPay_storable (c : Dev nD) (s : Fin 3) : BI.Storable (upEmb : UEmb _ 𝕄) (barPay (F := F) c s) := by unfold barPay; infer_instance
omit [FloatOps F] in
instance sendPay_storable (s : Fin 3) (h : Fin 2) (c : Dev nD) : BI.Storable (upEmb : UEmb _ 𝕄) (sendPay (F := F) s h c) := by unfold sendPay; infer_instance
instance recvPay_storable (s : Fin 3) (h : Fin 2) (c : Dev nD) : BI.Storable (upEmb : UEmb _ 𝕄) (recvPay m s h c) := by unfold recvPay; infer_instance

/-- The payments of each role. -/
def dutiesOf : Role → Finset (Fin 3)
  | .bar => Finset.univ
  | .send _ _ => {0}
  | .recv _ _ => {0}
  | .other => ∅
def amountOf : Role → ℕ
  | .bar => 1
  | _ => N
def payOf (c : Dev nD) (d : Fin 3) : Role → sProp 𝕄
  | .bar => barPay c d
  | .send s h => sendPay s h c
  | .recv s h => recvPay m s h c
  | .other => iprop(emp)

instance payOf_storable (c : Dev nD) (d : Fin 3) (r : Role) : BI.Storable (upEmb : UEmb _ 𝕄) (payOf m c d r) := by
  cases r <;> unfold payOf <;> infer_instance

/-- Every cell has one round. -/
def rd : Rounds.Schedule (GSem nD τ sig) (Fin 3) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    cases role g.2 <;> first | exact Nat.one_pos | exact N_pos

instance rd_storable (g : GSem nD τ sig) (r : ℕ) (d : Fin 3) : BI.Storable (upEmb : UEmb _ 𝕄) ((rd (F := F) m).payload g r d) := by
  show BI.Storable upEmb (payOf m g.1.1 d (role g.2)); infer_instance

section Sched
variable (c : Dev nD) (s : Fin 3) (h : Fin 2)

theorem duties_bar : (rd (F := F) m).duties (barCell c) 0 = Finset.univ := by dsimp only [rd]; exact if_pos ⟨rfl, rfl⟩
theorem duties_send : (rd (F := F) m).duties (sendCell s h c) 0 = {0} := by dsimp only [rd]; rw [if_pos ⟨rfl, rfl⟩, role_send]; rfl
theorem duties_recv : (rd (F := F) m).duties (recvCell s h c) 0 = {0} := by dsimp only [rd]; rw [if_pos ⟨rfl, rfl⟩, role_recv]; rfl
theorem duties_later (g : GSem nD τ sig) : ∀ r, 1 ≤ r → (rd (F := F) m).duties g r = ∅ :=
  fun r hr => by dsimp only [rd]; rw [if_neg fun h => by omega]

theorem amount_bar (d : Fin 3) : (rd (F := F) m).amount (barCell c) 0 d = 1 := rfl
theorem amount_send (d : Fin 3) : (rd (F := F) m).amount (sendCell s h c) 0 d = N := by dsimp only [rd]; rw [role_send]; rfl
theorem amount_recv (d : Fin 3) : (rd (F := F) m).amount (recvCell s h c) 0 d = N := by dsimp only [rd]; rw [role_recv]; rfl

theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell s h c) 0 = N := by
  unfold Schedule.expect Schedule.amountOf; rw [duties_send, Finset.sum_singleton, amount_send]
theorem expect_recv : (rd (F := F) m).expect (recvCell s h c) 0 = N := by
  unfold Schedule.expect Schedule.amountOf; rw [duties_recv, Finset.sum_singleton, amount_recv]

theorem payload_bar (d : Fin 3) : (rd (F := F) m).payload (barCell c) 0 d = barPay c d := rfl
theorem payload_send (d : Fin 3) : (rd (F := F) m).payload (sendCell s h c) 0 d = sendPay s h c := by dsimp only [rd]; rw [role_send]; rfl
theorem payload_recv (d : Fin 3) : (rd (F := F) m).payload (recvCell s h c) 0 d = recvPay m s h c := by dsimp only [rd]; rw [role_recv]; rfl

theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide)]; rfl
theorem rest_send : bigSep ((rd (F := F) m).duties (sendCell s h c) 0 \ ∅) (fun d => (rd (F := F) m).payload (sendCell s h c) 0 d) = sendPay s h c := by
  rw [Finset.sdiff_empty, duties_send, bigSep_singleton, payload_send]
theorem rest_recv : bigSep ((rd (F := F) m).duties (recvCell s h c) 0 \ ∅) (fun d => (rd (F := F) m).payload (recvCell s h c) 0 d) = recvPay m s h c := by
  rw [Finset.sdiff_empty, duties_recv, bigSep_singleton, payload_recv]

end Sched

/-! ## What a device owes at launch, and the order of the waits -/

/-- What device `c` owes, in the order it pays. -/
abbrev dues (c : Dev nD) : List (GSem nD τ sig × ℕ) :=
  [(barCell (peer 0 c), 1), (barCell (peer 1 c), 1), (barCell (peer 2 c), 1),
   (recvCell 0 0 (peer 0 c), N), (recvCell 0 1 (peer 0 c), N),
   (recvCell 1 0 (peer 1 c), N), (recvCell 1 1 (peer 1 c), N),
   (recvCell 2 0 (peer 2 c), N), (recvCell 2 1 (peer 2 c), N)]

/-- A list of debts as one tally, the first entry paid first. -/
def oweL : List (GSem nD τ sig × ℕ) → CellTallies nD τ sig Unit
  | [] => 0
  | x :: xs => oweL xs + tallyAt x.1 () x.2

/-- What is left after `n` payments. -/
abbrev owed (n : ℕ) (c : Dev nD) : CellTallies nD τ sig Unit := oweL ((dues c).drop n)

def L (g : GSem nD τ sig) : Finset Unit := if g.1.2 = .tc then {()} else ∅
/-- Waits go up this order: own copies first, then the barrier, then the landings step by step. -/
def rank : Role → ℕ
  | .bar => 1
  | .send _ _ => 0
  | .recv s _ => 2 + s.val
  | .other => 0
def lv (g : GSem nD τ sig) (_ : Unit) : ℕ := rank (role g.2)

theorem L_of_ne (g : GSem nD τ sig) (h : g.1.2 ≠ .tc) : L g = ∅ := if_neg h
theorem L_tc (c : Dev nD) (sm : SemLoc sig) : L ((c : Thread nD τ), sm) = {()} := if_pos rfl

theorem oweL_pos {l : List (GSem nD τ sig × ℕ)} {g : GSem nD τ sig} {u : Unit} (h : 0 < oweL l g u) : ∃ x ∈ l, g = x.1 := by
  induction l with
  | nil => exact absurd h (Nat.lt_irrefl 0)
  | cons x xs ih =>
    rw [oweL, Pi.add_apply, Finsupp.add_apply] at h
    rcases Nat.eq_zero_or_pos (oweL xs g u) with h0 | h0
    · rw [h0, Nat.zero_add] at h
      exact ⟨x, List.mem_cons_self, (Pipeline.tallyAt_pos h).1⟩
    · obtain ⟨y, hy, e⟩ := ih h0
      exact ⟨y, List.mem_cons_of_mem _ hy, e⟩

/-- A wait is allowed when everything still owed sits higher. -/
theorem mayWait_of (c : Dev nD) (sm : SemLoc sig) (l : List (GSem nD τ sig × ℕ))
    (hl : (l.all fun x => decide (x.1.1.2 = .tc ∧ rank (role sm) < rank (role x.1.2))) = true) :
    (levAts L lv : sProp 𝕄) ⊢ MayWait (c : Thread nD τ) sm () (oweL l) := by
  have hx : ∀ (g : GSem nD τ sig) (u : Unit), 0 < oweL l g u → g.1.2 = .tc ∧ rank (role sm) < rank (role g.2) := fun g u hg => by
    obtain ⟨x, hx, rfl⟩ := oweL_pos hg
    exact of_decide_eq_true (List.all_eq_true.mp hl x hx)
  exact MayOwe.of_cut (L := L) (lev := lv) (rank (role sm)) (fun p hp => by rw [Finset.mem_singleton.mp hp, L_tc]; exact Finset.mem_singleton_self _)
    (fun g u hg => by unfold L; rw [if_pos (hx g u hg).1]; exact Finset.mem_singleton_self _)
    (fun p hp => by rw [Finset.mem_singleton.mp hp]; exact le_refl _)
    (fun g u hg => (hx g u hg).2)

end Cert.Exchange

end
-- ==== Proof.Slots.lean ====
/-
# The slots of the two exchange buffers

The six slots of a buffer are disjoint, so a buffer held whole splits into its slots (and whatever they leave), and the
slots join back. A slot is read and written through the whole buffer at the slot's box, and copied as a matrix.
-/
module

public import proofs.«01_k».proof.Proof.Protocol
public import Idealize.ShloMosaic.Lib.Ring.FamCut
public import Idealize.ShloMosaic.Lib.Exec.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem slot_disj (b b' : Fin 3 × Fin 2) (hb : b ≠ b') : LoadRect.disj (slot b.1 b.2) (slot b'.1 b'.2).toLoadRect = true := by
  revert b b'; decide

theorem comm_set (s : Fin 3) (h : Fin 2) : (commM s h).view.set = (commB.view.slice (slot s h)).set := Memref.set_view_squeeze _ _
theorem send_set (s : Fin 3) (h : Fin 2) : (sendM s h).view.set = (sendB.view.slice (slot s h)).set := Memref.set_view_squeeze _ _

theorem comm_disj (b b' : Fin 3 × Fin 2) (hb : b ≠ b') : Disjoint (commM b.1 b.2).view.set (commM b'.1 b'.2).view.set := by
  rw [comm_set, comm_set]; exact View.disjoint_slice_of_disj _ _ _ (slot_disj b b' hb)
theorem send_disj (b b' : Fin 3 × Fin 2) (hb : b ≠ b') : Disjoint (sendM b.1 b.2).view.set (sendM b'.1 b'.2).view.set := by
  rw [send_set, send_set]; exact View.disjoint_slice_of_disj _ _ _ (slot_disj b b' hb)

/-- What the slots leave of the landing buffer, and of the staging buffer. -/
def commRest (c : Dev nD) : sProp 𝕄 :=
  iprop(∃ f, (c : Thread nD τ).loc cc0_scratch0 ↦[Ring.restOf (ℓ := (c : Thread nD τ).loc cc0_scratch0) (fun b : Fin 3 × Fin 2 => (commM b.1 b.2).view.set)]{fullShare} f)
def sendRest (c : Dev nD) : sProp 𝕄 :=
  iprop(∃ f, (c : Thread nD τ).loc cc0_scratch1 ↦[Ring.restOf (ℓ := (c : Thread nD τ).loc cc0_scratch1) (fun b : Fin 3 × Fin 2 => (sendM b.1 b.2).view.set)]{fullShare} f)

/-- Six things, one for each channel. -/
theorem six (Φ : Fin 3 × Fin 2 → sProp 𝕄) : bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]; rfl

theorem comm_split (c : Dev nD) : (iprop(∃ f, (c : Thread nD τ).loc cc0_scratch0 ↦{fullShare} f) : sProp 𝕄)
    ⊢ iprop(((∃ f, commPts 0 0 c f) ∗ (∃ f, commPts 0 1 c f) ∗ (∃ f, commPts 1 0 c f) ∗ (∃ f, commPts 1 1 c f) ∗ (∃ f, commPts 2 0 c f) ∗ ∃ f, commPts 2 1 c f)
      ∗ commRest c) := by
  have H := Ring.fam_split_ex (Ix := Unit) (Val := Elt F) (Name := ℕ) (U := UU) (Lvl := ℕ) (ℓ := (c : Thread nD τ).loc cc0_scratch0)
    (fun b : Fin 3 × Fin 2 => (commM b.1 b.2).view.set) comm_disj (q := fullShare)
  rw [six] at H
  exact H
theorem comm_join (c : Dev nD) : iprop(((∃ f, commPts 0 0 c f) ∗ (∃ f, commPts 0 1 c f) ∗ (∃ f, commPts 1 0 c f) ∗ (∃ f, commPts 1 1 c f) ∗ (∃ f, commPts 2 0 c f) ∗ ∃ f, commPts 2 1 c f)
      ∗ commRest c) ⊢ (iprop(∃ f, (c : Thread nD τ).loc cc0_scratch0 ↦{fullShare} f) : sProp 𝕄) := by
  have H := fun f₀ => Ring.fam_join (Ix := Unit) (Val := Elt F) (Name := ℕ) (U := UU) (Lvl := ℕ) (ℓ := (c : Thread nD τ).loc cc0_scratch0)
    (fun b : Fin 3 × Fin 2 => (commM b.1 b.2).view.set) comm_disj (q := fullShare) f₀
  rw [six] at H
  unfold commRest
  iintro ⟨H1, ⟨%f, H2⟩⟩
  iapply (H f)
  isplitl [H1]; · iexact H1
  iexists f; iexact H2

theorem send_split (c : Dev nD) : (iprop(∃ f, (c : Thread nD τ).loc cc0_scratch1 ↦{fullShare} f) : sProp 𝕄)
    ⊢ iprop(((∃ f, sendPts 0 0 c f) ∗ (∃ f, sendPts 0 1 c f) ∗ (∃ f, sendPts 1 0 c f) ∗ (∃ f, sendPts 1 1 c f) ∗ (∃ f, sendPts 2 0 c f) ∗ ∃ f, sendPts 2 1 c f)
      ∗ sendRest c) := by
  have H := Ring.fam_split_ex (Ix := Unit) (Val := Elt F) (Name := ℕ) (U := UU) (Lvl := ℕ) (ℓ := (c : Thread nD τ).loc cc0_scratch1)
    (fun b : Fin 3 × Fin 2 => (sendM b.1 b.2).view.set) send_disj (q := fullShare)
  rw [six] at H
  exact H
theorem send_join (c : Dev nD) : iprop(((∃ f, sendPts 0 0 c f) ∗ (∃ f, sendPts 0 1 c f) ∗ (∃ f, sendPts 1 0 c f) ∗ (∃ f, sendPts 1 1 c f) ∗ (∃ f, sendPts 2 0 c f) ∗ ∃ f, sendPts 2 1 c f)
      ∗ sendRest c) ⊢ (iprop(∃ f, (c : Thread nD τ).loc cc0_scratch1 ↦{fullShare} f) : sProp 𝕄) := by
  have H := fun f₀ => Ring.fam_join (Ix := Unit) (Val := Elt F) (Name := ℕ) (U := UU) (Lvl := ℕ) (ℓ := (c : Thread nD τ).loc cc0_scratch1)
    (fun b : Fin 3 × Fin 2 => (sendM b.1 b.2).view.set) send_disj (q := fullShare) f₀
  rw [six] at H
  unfold sendRest
  iintro ⟨H1, ⟨%f, H2⟩⟩
  iapply (H f)
  isplitl [H1]; · iexact H1
  iexists f; iexact H2

/-! ## Reading and writing a slot through its buffer -/

theorem slot_within (s : Fin 3) (h : Fin 2) : LoadRect.within (slot s h) (slot s h).toLoadRect = true := by revert s h; decide

theorem comm_reach (s : Fin 3) (h : Fin 2) : commB.view.setOn (slot s h).toLoadRect.set ⊆ (commM s h).view.set := by
  rw [Memref.set_view_squeeze]; exact Memref.setOn_subset_slice_of_within commB _ _ _ (slot_within s h)
theorem send_reach (s : Fin 3) (h : Fin 2) : sendB.view.setOn (slot s h).toLoadRect.set ⊆ (sendM s h).view.set := by
  rw [Memref.set_view_squeeze]; exact Memref.setOn_subset_slice_of_within sendB _ _ _ (slot_within s h)
theorem send_touch (s : Fin 3) (h : Fin 2) : (sendB.access (slot s h)).setOn Finset.univ ⊆ (sendM s h).view.set := by
  rw [send_set]; exact fun _ hi => hi

/-- Reading a landing slot through its buffer gives the matrix it holds. -/
theorem comm_read (s : Fin 3) (h : Fin 2) (f : (cc0_scratch0 : Ref sig .tc).ty.Contents (Elt F)) :
    shapeCast S128x256 (commB.view.readAt (Elt F) (slot s h).toLoadRect f) shapeCasts_S1x1x128x256_S128x256 = (commM s h).view.read (Elt F) f :=
  (Memref.read_squeeze_slice commB (slot s h) (fun _ => rfl) squeezes_S1x1x128x256_S128x256 shapeCasts_S1x1x128x256_S128x256 f).symm

/-- A staging slot written through its buffer holds the matrix written. -/
theorem send_read (s : Fin 3) (h : Fin 2) (f : (cc0_scratch1 : Ref sig .tc).ty.Contents (Elt F)) (w : FVec F S128x256 .bf16) :
    (sendM s h).view.read (Elt F) ((sendB.access (slot s h)).write (Elt F) f (shapeCast S1x1x128x256 w shapeCasts_S128x256_S1x1x128x256) Finset.univ) = w := by
  rw [Memref.read_squeeze_slice sendB (slot s h) (fun _ => rfl) squeezes_S1x1x128x256_S128x256 shapeCasts_S1x1x128x256_S128x256]
  have e : ∀ g, sendB.view.readAt (Elt F) (slot s h).toLoadRect g = (sendB.access (slot s h)).read (Elt F) g := fun g => rfl
  rw [e, View.read_write_univ]
  exact shapeCast_shapeCast w _ _

end Cert.Exchange

end
-- ==== Proof.Steps.lean ====
/-
# One step of the exchange at a time

What a device holds for a channel, from before its copy leaves to after the partner's copy has landed, and the rule for
each instruction that moves a channel from one such state to the next.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of all devices -/

set_option backward.proofsInPublic true in
/-- The semaphores of the exchange: the barrier, then the send and the receive semaphores. -/
def ksem : Fin 13 → SemLoc sig := Fin.cases (.reg barS) fun j => .dma ⟨6 + j.val, by have := j.isLt; show _ < 18; omega⟩
abbrev kcell (ck : Dev nD × Fin 13) : GSem nD τ sig := ((ck.1 : Thread nD τ), ksem ck.2)

set_option backward.proofsInPublic true in
def sendK (s : Fin 3) (h : Fin 2) : Fin 13 := ⟨1 + (2 * s.val + h.val), by have := s.isLt; have := h.isLt; omega⟩
set_option backward.proofsInPublic true in
def recvK (s : Fin 3) (h : Fin 2) : Fin 13 := ⟨7 + (2 * s.val + h.val), by have := s.isLt; have := h.isLt; omega⟩

theorem ksem_send (s : Fin 3) (h : Fin 2) : ksem (sendK s h) = .dma (sendS s h) := by revert s h; decide
theorem ksem_recv (s : Fin 3) (h : Fin 2) : ksem (recvK s h) = .dma (recvS s h) := by revert s h; decide

/-- Every cell's invariant is on record, and that its round is open. -/
def records (K : Dev nD × Fin 13 → ℕ) : sProp 𝕄 :=
  iprop((bigSep Finset.univ fun ck : Dev nD × Fin 13 => cellInv ER (rd m) (K ck) (kcell ck))
    ∗ bigSep Finset.univ fun ck : Dev nD × Fin 13 => reached ER (kcell ck) 0)

instance records_persistent (K : Dev nD × Fin 13 → ℕ) : BI.Persistent (records m K) := by unfold records; infer_instance

/-- The records, and the order of the waits. -/
def base (K : Dev nD × Fin 13 → ℕ) : sProp 𝕄 := iprop(records m K ∗ levAts L lv)

instance base_persistent (K : Dev nD × Fin 13 → ℕ) : BI.Persistent (base m K) := by unfold base; infer_instance

variable (K : Dev nD × Fin 13 → ℕ)

theorem all_at {Φ : Dev nD × Fin 13 → sProp 𝕄} (ck : Dev nD × Fin 13) : bigSep Finset.univ Φ ⊢ Φ ck := bigSep_elim (Finset.mem_univ ck)
theorem inv_at (ck : Dev nD × Fin 13) : base m K ⊢ cellInv ER (rd m) (K ck) (kcell ck) := by
  unfold base records
  iintro ⟨⟨H, -⟩, -⟩
  iapply (all_at (Φ := fun ck : Dev nD × Fin 13 => cellInv ER (rd m) (K ck) (kcell ck)) ck); iexact H
theorem reached_at (ck : Dev nD × Fin 13) : base m K ⊢ reached ER (kcell ck) 0 := by
  unfold base records
  iintro ⟨⟨-, H⟩, -⟩
  iapply (all_at (Φ := fun ck : Dev nD × Fin 13 => (reached ER (kcell ck) 0 : sProp 𝕄)) ck); iexact H

theorem inv_bar (c : Dev nD) : base m K ⊢ cellInv ER (rd m) (K (c, 0)) (barCell c) := inv_at m K (c, 0)
theorem inv_send (s : Fin 3) (h : Fin 2) (c : Dev nD) : base m K ⊢ cellInv ER (rd m) (K (c, sendK s h)) (sendCell s h c) := by
  have H := inv_at m K (c, sendK s h); unfold kcell at H; rwa [ksem_send] at H
theorem inv_recv (s : Fin 3) (h : Fin 2) (c : Dev nD) : base m K ⊢ cellInv ER (rd m) (K (c, recvK s h)) (recvCell s h c) := by
  have H := inv_at m K (c, recvK s h); unfold kcell at H; rwa [ksem_recv] at H
theorem reached_bar (c : Dev nD) : base m K ⊢ reached ER (barCell c) 0 := reached_at m K (c, 0)
theorem reached_send (s : Fin 3) (h : Fin 2) (c : Dev nD) : base m K ⊢ reached ER (sendCell s h c) 0 := by
  have H := reached_at m K (c, sendK s h); unfold kcell at H; rwa [ksem_send] at H
theorem reached_recv (s : Fin 3) (h : Fin 2) (c : Dev nD) : base m K ⊢ reached ER (recvCell s h c) 0 := by
  have H := reached_at m K (c, recvK s h); unfold kcell at H; rwa [ksem_recv] at H

/-! ## The states of a channel -/

section Chan
variable (s : Fin 3) (h : Fin 2) (c : Dev nD)

/-- The permissions to pay and to wait on the channel's two cells. -/
def chanToks : sProp 𝕄 := iprop(dutyTok ER (sendCell s h c) 0 0 ∗ dutyTok ER (recvCell s h (peer s c)) 0 0)
def chanPos : sProp 𝕄 := iprop(atPos ER (sendCell s h c) 0 ∅ 0 ∗ atPos ER (recvCell s h c) 0 ∅ 0)
/-- Nothing staged yet. -/
def idle : sProp 𝕄 := iprop(chanToks s h c ∗ chanPos s h c ∗ cred (tallyAt (recvCell s h c) () N) ∗ ∃ f, sendPts s h c f)
/-- The matrix `w` staged. -/
def staged (w : FVec F S128x256 .bf16) : sProp 𝕄 :=
  iprop(chanToks s h c ∗ chanPos s h c ∗ cred (tallyAt (recvCell s h c) () N) ∗ ∃ f, ⌜(sendM s h).view.read (Elt F) f = w⌝ ∗ sendPts s h c f)
/-- The partner's landing slot is at hand. -/
def gate : sProp 𝕄 := iprop(∃ f, commPts s h (peer s c) f)
/-- The copy is on its way. -/
def flight : sProp 𝕄 := iprop(chanPos s h c ∗ cred (tallyAt (recvCell s h c) () N) ∗ cred (tallyAt (sendCell s h c) () N))
/-- The copy has been read, the staged slot is back. -/
def back : sProp 𝕄 := iprop((atPos ER (sendCell s h c) (0 + 1) ∅ 0 ∗ ∃ f, sendPts s h c f) ∗ atPos ER (recvCell s h c) 0 ∅ 0 ∗ cred (tallyAt (recvCell s h c) () N))
/-- The partner's copy has landed too. -/
def landed : sProp 𝕄 := iprop((atPos ER (sendCell s h c) (0 + 1) ∅ 0 ∗ ∃ f, sendPts s h c f) ∗ atPos ER (recvCell s h c) (0 + 1) ∅ 0 ∗ recvPay m s h c)

end Chan

/-- What the device still owes. -/
def debt (l : List (GSem nD τ sig × ℕ)) (c : Dev nD) : sProp 𝕄 := iprop(∃ W, owes (c : Thread nD τ) (oweL l) W)

abbrev 𝒱₀ : Variants := Variants.none

/-- The device runs `p` to a state of `Q`. -/
abbrev exec {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The rules -/

section Rules
variable {α : Type} {c : Dev nD}

/-- Putting a running sum in the staging slot. -/
theorem wp_stage (s : Fin 3) (h : Fin 2) (v : FVec F S128x256 .f32) {p : FVec F S1x1x128x256 .bf16}
    (hp : p = shapeCast S1x1x128x256 (pack v) shapeCasts_S128x256_S1x1x128x256)
    {hs : (sendB.access (slot s h)).Stores Finset.univ} {hz} {k : PUnit → Prog (TpuEff nD τ sig (Elt F) Λ₀ .tc) α} {Q : α → sProp 𝕄} :
    idle (F := F) s h c ⊢ iprop((staged s h c (pack v) -∗ exec c (k ⟨⟩) Q) -∗ exec c (.op (.store sendB (slot s h) p Finset.univ hs hz) k) Q) := by
  subst hp
  unfold idle staged
  iintro ⟨Ht, Hp, Hc, ⟨%f, Hs⟩⟩ Hk
  unfold sendPts
  iapply (wp_store 𝒱₀ (c : Thread nD τ) none Set.univ (m := sendB) (r := slot s h) (Mk := Finset.univ) (send_touch s h)) $$ Hs; iintro Hs
  iapply Hk
  isplitl [Ht]; · iexact Ht
  isplitl [Hp]; · iexact Hp
  isplitl [Hc]; · iexact Hc
  iexists _
  isplitr; · ipureintro; exact send_read s h f (pack v)
  iexact Hs

/-- Reading the staging slot before it is written: the value is not used. -/
theorem wp_peek (s : Fin 3) (h : Fin 2) {hl : sendB.view.LoadsAt (slot s h).toLoadRect} {k : Vec F S1x1x128x256 .bf16 → Prog (TpuEff nD τ sig (Elt F) Λ₀ .tc) α} {Q : α → sProp 𝕄} :
    idle (F := F) s h c ⊢ iprop((∀ x, idle s h c -∗ exec c (k x) Q) -∗ exec c (.op (.load sendB (slot s h).toLoadRect hl) k) Q) := by
  unfold idle
  iintro ⟨Ht, Hp, Hc, ⟨%f, Hs⟩⟩ Hk
  unfold sendPts
  iapply (wp_load 𝒱₀ (c : Thread nD τ) none Set.univ (m := sendB) (send_reach s h)) $$ Hs; iintro Hs
  iapply Hk
  isplitl [Ht]; · iexact Ht
  isplitl [Hp]; · iexact Hp
  isplitl [Hc]; · iexact Hc
  iexists _
  iexact Hs

/-- Sending the staged sum to the partner. -/
theorem wp_pass (s : Fin 3) (h : Fin 2) {n : Dev nD} (hn : n = peer s c) {l : List (GSem nD τ sig × ℕ)}
    {hsc : (commM s h : Memref sig (Dev.tc n : Thread nD τ).2.kind .vmem S128x256 .bf16).view.ref.isScScratch = false}
    {hsrc : (sendM s h).view.WordExact} {hdst : (commM s h).view.WordExact}
    {hsem : DmaTarget.Typed .vmem (.dma (recvS s h)) (.remote (Dev.tc n : Thread nD τ) (commM s h) (.dma (sendS s h)) hsc)}
    {k : PUnit → Prog (TpuEff nD τ sig (Elt F) Λ₀ .tc) α} {Q : α → sProp 𝕄} :
    iprop(base m K ∗ staged s h c (sent m s h c) ∗ gate s h c ∗ debt ((recvCell s h (peer s c), N) :: l) c)
      ⊢ iprop(((flight s h c ∗ debt l c) -∗ exec c (k ⟨⟩) Q)
          -∗ exec c (.op (.enqueueDma (sendM s h) (.remote (Dev.tc n : Thread nD τ) (commM s h) (.dma (sendS s h)) hsc) (.dma (recvS s h)) hsrc hdst hsem) k) Q) := by
  subst hn
  unfold staged gate debt flight chanToks
  iintro ⟨#HB, ⟨⟨Ht1, Ht2⟩, Hp, Hc, ⟨%f, %hf, Hs⟩⟩, ⟨%fd, Hd⟩, ⟨%W, HO⟩⟩ Hk
  unfold sendPts commPts
  iapply (Rounds.wp_send_pointsTo 𝒱₀ ER (rd m) (c : Thread nD τ) none (κ₁ := K (c, sendK s h)) (κ₂ := K (peer s c, recvK s h))
    (r₁ := 0) (r₂ := 0) (d₁ := 0) (d₂ := 0) (fd := fd)
    (by rw [duties_send]; exact Finset.mem_singleton_self _) (by rw [duties_recv]; exact Finset.mem_singleton_self _)
    () () N rfl (amount_send m c s h 0) (amount_recv m (peer s c) s h 0) (oweL l) rfl (W := W)
    (by rw [payload_send]; unfold sendPay sendPts; iintro H; iexists f; iexact H)
    (by
      rw [payload_recv]; unfold recvPay commPts
      iintro H; iexists ((commM s h).view.write (Elt F) fd ((sendM s h).view.read (Elt F) f) Finset.univ)
      isplitr
      · ipureintro
        exact (View.read_write_univ _ _).trans (hf.trans (by rw [peer_peer]))
      iexact H)) $$ [Hs Hd HO Ht1 Ht2]
  · isplitr; · iapply (inv_send m K s h c); iexact HB
    isplitr; · iapply (inv_recv m K s h (peer s c)); iexact HB
    isplitl [Hs]; · iexact Hs
    isplitl [Hd]; · iexact Hd
    isplitl [HO]; · iexact HO
    isplitl [Ht1]; · iexact Ht1
    isplitr; · iapply (reached_send m K s h c); iexact HB
    isplitl [Ht2]; · iexact Ht2
    iapply (reached_recv m K s h (peer s c)); iexact HB
  iintro ⟨Hc2, HO⟩
  iapply Hk
  isplitl [Hp Hc Hc2]
  · isplitl [Hp]; · iexact Hp
    isplitl [Hc]; · iexact Hc
    iexact Hc2
  iexists W; iexact HO

/-- Every debt of `l` is a landing on some device, at a later step than a wait of rank `k`. -/
abbrev Later (k : ℕ) (l : List (GSem nD τ sig × ℕ)) : Prop := (l.all fun x => decide (x.1.1.2 = .tc ∧ k < rank (role x.1.2))) = true

/-- Waiting for the own copy to be read. -/
theorem wp_sent (s : Fin 3) (h : Fin 2) {l : List (GSem nD τ sig × ℕ)} (hl : Later 0 l)
    {src dst : Memref sig .tc .vmem S128x256 .bf16} {hsrc : src.view.WordExact} {hdst : dst.view.WordExact} (hN : dst.view.dmaCredit = N)
    {k : PUnit → Prog (TpuEff nD τ sig (Elt F) Λ₀ .tc) α} {Q : α → sProp 𝕄} :
    iprop(base m K ∗ flight s h c ∗ debt l c)
      ⊢ iprop(((back s h c ∗ debt l c) -∗ exec c (k ⟨⟩) Q) -∗ exec c (.op (.waitDma2 (sendS s h) src dst hsrc hdst) k) Q) := by
  unfold flight back debt chanPos
  iintro ⟨#HB, ⟨⟨Ha, Hb⟩, Hc, Hc2⟩, ⟨%W, HO⟩⟩ Hk
  iapply (Rounds.wp_wait_rest_token 𝒱₀ ER (rd m) (c : Thread nD τ) none (κ := K (c, sendK s h))
      (wpE_waitDma2_eq 𝒱₀ (c : Thread nD τ) none Set.univ) (Set.mem_univ _) () (O := oweL l) (W := W) (R := 0) (m := 0) (T := ∅)
      (by rw [Nat.zero_add, hN, expect_send])) $$ [Hc2 HO Ha]
  · isplitr; · iapply (inv_send m K s h c); iexact HB
    isplitl [Hc2]; · rw [hN]; iexact Hc2
    isplitl [HO]; · iexact HO
    isplitr
    · iapply (mayWait_of c (.dma (sendS s h)) l (by rw [role_send]; exact hl)); unfold base; icases HB with ⟨-, H⟩; iexact H
    iexact Ha
  iintro ⟨HO, Ha, -, Hpay⟩
  ihave Hpay := (Entails.of_eq (rest_send m c s h)) $$ Hpay
  unfold sendPay
  iapply Hk
  isplitr [HO]
  · isplitl [Ha Hpay]
    · isplitl [Ha]; · iexact Ha
      iexact Hpay
    isplitl [Hb]; · iexact Hb
    iexact Hc
  iexists _; iexact HO

/-- Waiting for the partner's copy to land. -/
theorem wp_arrive (s : Fin 3) (h : Fin 2) {l : List (GSem nD τ sig × ℕ)} (hl : Later (2 + s.val) l)
    {src dst : Memref sig .tc .vmem S128x256 .bf16} {hsrc : src.view.WordExact} {hdst : dst.view.WordExact} (hN : dst.view.dmaCredit = N)
    {k : PUnit → Prog (TpuEff nD τ sig (Elt F) Λ₀ .tc) α} {Q : α → sProp 𝕄} :
    iprop(base m K ∗ back s h c ∗ debt l c)
      ⊢ iprop(((landed m s h c ∗ debt l c) -∗ exec c (k ⟨⟩) Q) -∗ exec c (.op (.waitDma2 (recvS s h) src dst hsrc hdst) k) Q) := by
  unfold landed back debt
  iintro ⟨#HB, ⟨Ha, Hb, Hc⟩, ⟨%W, HO⟩⟩ Hk
  iapply (Rounds.wp_wait_rest_token 𝒱₀ ER (rd m) (c : Thread nD τ) none (κ := K (c, recvK s h))
      (wpE_waitDma2_eq 𝒱₀ (c : Thread nD τ) none Set.univ) (Set.mem_univ _) () (O := oweL l) (W := W) (R := 0) (m := 0) (T := ∅)
      (by rw [Nat.zero_add, hN, expect_recv])) $$ [Hc HO Hb]
  · isplitr; · iapply (inv_recv m K s h c); iexact HB
    isplitl [Hc]; · rw [hN]; iexact Hc
    isplitl [HO]; · iexact HO
    isplitr
    · iapply (mayWait_of c (.dma (recvS s h)) l (by rw [role_recv]; exact hl)); unfold base; icases HB with ⟨-, H⟩; iexact H
    iexact Hb
  iintro ⟨HO, Hb, -, Hpay⟩
  ihave Hpay := (Entails.of_eq (rest_recv m c s h)) $$ Hpay
  iapply Hk
  isplitr [HO]
  · isplitl [Ha]; · iexact Ha
    isplitl [Hb]; · iexact Hb
    iexact Hpay
  iexists _; iexact HO

/-- Reading what landed. -/
theorem wp_take (s : Fin 3) (h : Fin 2) {hl : commB.view.LoadsAt (slot s h).toLoadRect} {k : Vec F S1x1x128x256 .bf16 → Prog (TpuEff nD τ sig (Elt F) Λ₀ .tc) α} {Q : α → sProp 𝕄} :
    landed m s h c ⊢ iprop((landed m s h c -∗ exec c (k (shapeCast S1x1x128x256 (sent m s h (peer s c)) shapeCasts_S128x256_S1x1x128x256)) Q)
      -∗ exec c (.op (.load commB (slot s h).toLoadRect hl) k) Q) := by
  unfold landed recvPay
  iintro ⟨Ha, Hb, ⟨%f, %hf, Hs⟩⟩ Hk
  unfold commPts
  iapply (wp_load 𝒱₀ (c : Thread nD τ) none Set.univ (m := commB) (comm_reach s h)) $$ Hs; iintro Hs
  rw [show commB.view.readAt (Elt F) (slot s h).toLoadRect f = shapeCast S1x1x128x256 (sent m s h (peer s c)) shapeCasts_S128x256_S1x1x128x256 from by
    rw [← hf, ← comm_read]; exact (shapeCast_shapeCast _ _ _).symm]
  iapply Hk
  isplitl [Ha]; · iexact Ha
  isplitl [Hb]; · iexact Hb
  iexists f
  isplitr; · ipureintro; exact hf
  iexact Hs

/-- Telling partner `s` that its landing slots here are free. -/
theorem wp_tell (s : Fin 3) {n : Dev nD} (hn : n = peer s c) {l : List (GSem nD τ sig × ℕ)}
    {k : PUnit → Prog (TpuEff nD τ sig (Elt F) Λ₀ .tc) α} {Q : α → sProp 𝕄} :
    iprop(base m K ∗ dutyTok ER (barCell (peer s c)) 0 s ∗ (∃ f, commPts s 0 c f) ∗ (∃ f, commPts s 1 c f) ∗ debt ((barCell (peer s c), 1) :: l) c)
      ⊢ iprop((debt l c -∗ exec c (k ⟨⟩) Q) -∗ exec c (.op (.semSignal (Dev.tc n : Thread nD τ) barS (1#32 : BitVec 32).toInt) k) Q) := by
  subst hn
  unfold debt
  iintro ⟨#HB, Ht, H0, H1, ⟨%W, HO⟩⟩ Hk
  iapply (Rounds.wp_signal 𝒱₀ ER (rd m) (c : Thread nD τ) none (dst := (peer s c : Thread nD τ)) (κ := K (peer s c, 0))
      (d := s) (by rw [duties_bar]; exact Finset.mem_univ _) ((amount_bar m (peer s c) s).trans (by decide)) () (oweL l) rfl)
    $$ [HO Ht H0 H1]
  · isplitr; · iapply (inv_bar m K (peer s c)); iexact HB
    isplitl [HO]; · iexact HO
    isplitl [Ht]; · iexact Ht
    isplitl [H0 H1]
    · rw [payload_bar]; unfold barPay; rw [peer_peer]
      isplitl [H0]; · iexact H0
      iexact H1
    · iapply (reached_bar m K (peer s c)); iexact HB
  iintro HO
  iapply Hk
  iexists W; iexact HO

end Rules

end Cert.Exchange

end
-- ==== Proof.Parts.lean ====
/-
# The body, part by part

The printed body comes in twelve parts. Each is run once, from what the device holds before it to what it holds after.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-! ## Reading a whole operand -/

theorem zero2 : (![0, 0] : Fin 2 → Nat) = fun _ => 0 := funext fun a => by fin_cases a <;> rfl
theorem zero3 : (![0, 0, 0] : Fin 3 → Nat) = fun _ => 0 := funext fun a => by fin_cases a <;> rfl

theorem read_0 (f : (cc0_stg0_0 : Ref sig .tc).ty.Contents (Elt F)) : (Memref.whole cc0_stg0_0 : Memref sig .tc .vmem S256x128 .bf16).view.readAt (Elt F)
    (Rect.unit (s := S256x128) ![0, 0] S256x128.size inb_S256x128_S256x128_0_0).toLoadRect f = f := Memref.readAt_unit_zero (Elt F) cc0_stg0_0 zero2 _ _
theorem read_1 (f : (cc0_stg1_0 : Ref sig .tc).ty.Contents (Elt F)) : (Memref.whole cc0_stg1_0 : Memref sig .tc .vmem S128x16 .bf16).view.readAt (Elt F)
    (Rect.unit (s := S128x16) ![0, 0] S128x16.size inb_S128x16_S128x16_0_0).toLoadRect f = f := Memref.readAt_unit_zero (Elt F) cc0_stg1_0 zero2 _ _
theorem read_2 (f : (cc0_stg2_0 : Ref sig .tc).ty.Contents (Elt F)) : (Memref.whole cc0_stg2_0 : Memref sig .tc .vmem S256x1 .i32).view.readAt (Elt F)
    (Rect.unit (s := S256x1) ![0, 0] S256x1.size inb_S256x1_S256x1_0_0).toLoadRect f = f := Memref.readAt_unit_zero (Elt F) cc0_stg2_0 zero2 _ _
theorem read_3 (f : (cc0_stg3_0 : Ref sig .tc).ty.Contents (Elt F)) : (Memref.whole cc0_stg3_0 : Memref sig .tc .vmem S2x128x256 .bf16).view.readAt (Elt F)
    (Rect.unit (s := S2x128x256) ![0, 0, 0] S2x128x256.size inb_S2x128x256_S2x128x256_0_0_0).toLoadRect f = f := Memref.readAt_unit_zero (Elt F) cc0_stg3_0 zero3 _ _
theorem read_4 (f : (cc0_stg4_0 : Ref sig .tc).ty.Contents (Elt F)) : (Memref.whole cc0_stg4_0 : Memref sig .tc .vmem S128x256 .bf16).view.readAt (Elt F)
    (Rect.unit (s := S128x256) ![0, 0] S128x256.size inb_S128x256_S128x256_0_0).toLoadRect f = f := Memref.readAt_unit_zero (Elt F) cc0_stg4_0 zero2 _ _

/-- A buffer held whole. -/
abbrev holds (c : Dev nD) (b : Ref sig .tc) (f : Buf (Elt F) ((c : Thread nD τ).loc b)) : sProp 𝕄 := (c : Thread nD τ).loc b ↦{fullShare} f

/-! ## Sums over what arrived -/

/-- A matrix in the shape of a slot. -/
abbrev boxed (w : FVec F S128x256 .bf16) : FVec F S1x1x128x256 .bf16 := shapeCast S1x1x128x256 w shapeCasts_S128x256_S1x1x128x256

theorem unbox (w : FVec F S128x256 .bf16) : shapeCast S128x256 (boxed w) shapeCasts_S1x1x128x256_S128x256 = w := shapeCast_shapeCast w _ _
theorem add_boxed (v : FVec F S128x256 .f32) (w : FVec F S128x256 .bf16) :
    addf v (extf .f32 (shapeCast S128x256 (boxed w) shapeCasts_S1x1x128x256_S128x256) bitsLt_bf16_f32) = join v w := by rw [unbox]; rfl

theorem pay16_boxed (v : FVec F S128x256 .f32) (w : FVec F S128x256 .bf16) : k0_pay16 v (boxed w) = join v w := add_boxed v w
theorem pay18_boxed (v : FVec F S128x256 .f32) (w : FVec F S128x256 .bf16) : k0_pay18 v (boxed w) = join v w := add_boxed v w
theorem pay20_boxed (v : FVec F S128x256 .f32) (w : FVec F S128x256 .bf16) : k0_pay20 v (boxed w) = join v w := add_boxed v w
theorem pay23_boxed (v : FVec F S128x256 .f32) (w : FVec F S128x256 .bf16) : k0_pay23 v (boxed w) = join v w := add_boxed v w
theorem pay25_boxed (v : FVec F S128x256 .f32) (w : FVec F S128x256 .bf16) : k0_pay25 v (boxed w) = join v w := add_boxed v w
theorem pay26_boxed (v : FVec F S128x256 .f32) (w : FVec F S128x256 .bf16) : k0_pay26 v (boxed w) = join v w := add_boxed v w
theorem pay21_boxed (v : FVec F S128x256 .f32) (w : FVec F S128x256 .bf16) : k0_pay21 v (boxed w) = pack (join v w) := congrArg pack (add_boxed v w)
theorem pay17_boxed (v : FVec F S128x256 .f32) (w : FVec F S128x256 .bf16) : k0_pay17 v (boxed w) = boxed (pack (join v w)) := congrArg (fun x => boxed (pack x)) (add_boxed v w)
theorem pay19_boxed (v : FVec F S128x256 .f32) (w : FVec F S128x256 .bf16) : k0_pay19 v (boxed w) = boxed (pack (join v w)) := congrArg (fun x => boxed (pack x)) (add_boxed v w)
theorem pay24_boxed (v : FVec F S128x256 .f32) (w : FVec F S128x256 .bf16) : k0_pay24 v (boxed w) = boxed (pack (join v w)) := congrArg (fun x => boxed (pack x)) (add_boxed v w)

section Parts
variable {α : Type} {c : Dev nD}

/-- Waiting for all three partners: their landing slots come with it. -/
theorem wp_gather {k : PUnit → Prog (TpuEff nD τ sig (Elt F) Λ₀ .tc) α} {Q : α → sProp 𝕄} {l : List (GSem nD τ sig × ℕ)} (hl : Later 1 l) :
    iprop(base m K ∗ cred (tallyAt (barCell c) () 3) ∗ atPos ER (barCell c) 0 ∅ 0 ∗ debt l c)
      ⊢ iprop(((atPos ER (barCell c) (0 + 1) ∅ 0 ∗ debt l c ∗ gate 0 0 c ∗ gate 0 1 c ∗ gate 1 0 c ∗ gate 1 1 c ∗ gate 2 0 c ∗ gate 2 1 c) -∗ exec c (k ⟨⟩) Q)
        -∗ exec c (.op (.semWait barS (3#32 : BitVec 32).toInt) k) Q) := by
  unfold debt gate
  iintro ⟨#HB, Hc, Ha, ⟨%W, HO⟩⟩ Hk
  iapply (Rounds.wp_wait_rest_token 𝒱₀ ER (rd m) (c : Thread nD τ) none (κ := K (c, 0))
      (wpE_semWait_eq 𝒱₀ (c : Thread nD τ) none Set.univ) (Set.mem_univ _) () (O := oweL l) (W := W) (R := 0) (m := 0) (T := ∅)
      (by rw [expect_bar]; decide)) $$ [Hc HO Ha]
  · isplitr; · iapply (inv_bar m K c); iexact HB
    isplitl [Hc]; · iexact Hc
    isplitl [HO]; · iexact HO
    isplitr
    · iapply (mayWait_of c (.reg barS) l hl); unfold base; icases HB with ⟨-, H⟩; iexact H
    iexact Ha
  iintro ⟨HO, Ha, -, Hpay⟩
  ihave Hpay := (Entails.of_eq (rest_bar m c)) $$ Hpay
  unfold barPay
  icases Hpay with ⟨⟨H00, H01⟩, ⟨H10, H11⟩, ⟨H20, H21⟩⟩
  iapply Hk
  isplitl [Ha]; · iexact Ha
  isplitl [HO]; · iexists _; iexact HO
  isplitl [H00]; · iexact H00
  isplitl [H01]; · iexact H01
  isplitl [H10]; · iexact H10
  isplitl [H11]; · iexact H11
  isplitl [H20]; · iexact H20
  iexact H21

/-- Tell the three partners; read the tokens, the router and the chosen experts. -/
theorem part1 {k : (Σ' (d0 : Dev nD) (v2 : BitVec 32) (v3 : Sems sig S_) (v14 : FVec F S256x128 .bf16) (v26 : FVec F S256x16 .f32) (v28 : IVec S256x1 32), IVec S256x16 32) → Prog (TpuEff nD τ sig (Elt F) Λ₀ .tc) α} {Q : α → sProp 𝕄} :
    iprop(base m K ∗ dutyTok ER (barCell (peer 0 c)) 0 0 ∗ dutyTok ER (barCell (peer 1 c)) 0 1 ∗ dutyTok ER (barCell (peer 2 c)) 0 2 ∗ ((∃ f, commPts 0 0 c f) ∗ (∃ f, commPts 0 1 c f) ∗ (∃ f, commPts 1 0 c f) ∗ (∃ f, commPts 1 1 c f) ∗ (∃ f, commPts 2 0 c f) ∗ ∃ f, commPts 2 1 c f) ∗ debt (dues c) c ∗ holds c cc0_stg0_0 (inX m c) ∗ holds c cc0_stg1_0 (inR m c) ∗ holds c cc0_stg2_0 (inI m c))
      ⊢ iprop(((debt ((dues c).drop 3) c ∗ holds c cc0_stg0_0 (inX m c) ∗ holds c cc0_stg1_0 (inR m c) ∗ holds c cc0_stg2_0 (inI m c)) -∗ exec c (k ⟨c, devWord c, SemArray.scalar (sig.barrier 0 rfl), (k0_pay2 (inX m c)), (k0_pay3 (inX m c) (inR m c)), (k0_pay4 (inI m c)), cols⟩) Q)
        -∗ exec c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 >>= k) Q) := by
  simp only [k0_part1_eq_skeleton]; unfold k0_part1_skel
  simp only [semSignalWord, semWaitWord, Prog.lift, Prog.bind_op, Prog.bind_ret, Prog.pure_eq_ret, Prog.bind_assoc, wp_deviceId]
  iintro ⟨#HB, Ht0, Ht1, Ht2, ⟨H00, H01, H10, H11, H20, H21⟩, HO, HX, HR, HI⟩ Hk
  iapply (wp_tell m K 0 (dev1_eq c) (l := ((dues c).drop 1))) $$ [Ht0 H00 H01 HO]
  · isplitr; · iexact HB
    isplitl [Ht0]; · iexact Ht0
    isplitl [H00]; · iexact H00
    isplitl [H01]; · iexact H01
    iexact HO
  iintro HO
  iapply (wp_tell m K 1 (dev2_eq c) (l := ((dues c).drop 2))) $$ [Ht1 H10 H11 HO]
  · isplitr; · iexact HB
    isplitl [Ht1]; · iexact Ht1
    isplitl [H10]; · iexact H10
    isplitl [H11]; · iexact H11
    iexact HO
  iintro HO
  iapply (wp_tell m K 2 (dev3_eq c) (l := ((dues c).drop 3))) $$ [Ht2 H20 H21 HO]
  · isplitr; · iexact HB
    isplitl [Ht2]; · iexact Ht2
    isplitl [H20]; · iexact H20
    isplitl [H21]; · iexact H21
    iexact HO
  iintro HO
  iapply (wp_load 𝒱₀ (c : Thread nD τ) none Set.univ (m := Memref.whole cc0_stg0_0) (Finset.subset_univ _)) $$ HX; iintro HX
  rw [read_0]
  iapply (wp_load 𝒱₀ (c : Thread nD τ) none Set.univ (m := Memref.whole cc0_stg1_0) (Finset.subset_univ _)) $$ HR; iintro HR
  rw [read_1]
  iapply (wp_load 𝒱₀ (c : Thread nD τ) none Set.univ (m := Memref.whole cc0_stg2_0) (Finset.subset_univ _)) $$ HI; iintro HI
  rw [read_2]
  iapply Hk
  isplitl [HO]; · iexact HO
  isplitl [HX]; · iexact HX
  isplitl [HR]; · iexact HR
  iexact HI

/-- Read the device's two experts; the part of the first row half. -/
theorem part2 {k : (Σ' (v36 : FVec F S128x512 .bf16), FVec F S128x256 .f32) → Prog (TpuEff nD τ sig (Elt F) Λ₀ .tc) α} {Q : α → sProp 𝕄} :
    iprop(holds c cc0_stg3_0 (inE m c))
      ⊢ iprop(((holds c cc0_stg3_0 (inE m c)) -∗ exec c (k ⟨(k0_pay5 (inE m c)), part m 0 c⟩) Q)
        -∗ exec c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (devWord c) (k0_pay2 (inX m c)) (k0_pay3 (inX m c) (inR m c)) (k0_pay4 (inI m c)) cols >>= k) Q) := by
  simp only [k0_part2_eq_skeleton]; unfold k0_part2_skel
  simp only [semSignalWord, semWaitWord, Prog.lift, Prog.bind_op, Prog.bind_ret, Prog.pure_eq_ret, Prog.bind_assoc, wp_deviceId]
  iintro HE Hk
  iapply (wp_load 𝒱₀ (c : Thread nD τ) none Set.univ (m := Memref.whole cc0_stg3_0) (Finset.subset_univ _)) $$ HE; iintro HE
  rw [read_3]
  iapply Hk
  iexact HE

/-- Stage the first half, wait for the partners, send it. -/
theorem part3 {k : (Σ' (v84 : BitVec 32) (v96 : FVec F S128x512 .f32) (v97 : FVec F S128x256 .f32) (v108 : FVec F S128x1 .f32) (v109 : IVec S128x1 32), IVec S128x1 32) → Prog (TpuEff nD τ sig (Elt F) Λ₀ .tc) α} {Q : α → sProp 𝕄} :
    iprop(base m K ∗ idle 0 0 c ∗ cred (tallyAt (barCell c) () 3) ∗ atPos ER (barCell c) 0 ∅ 0 ∗ debt ((dues c).drop 3) c)
      ⊢ iprop(((flight 0 0 c ∗ atPos ER (barCell c) (0 + 1) ∅ 0 ∗ gate 0 1 c ∗ gate 1 0 c ∗ gate 1 1 c ∗ gate 2 0 c ∗ gate 2 1 c ∗ debt ((dues c).drop 4) c) -∗ exec c (k ⟨Scalar.xori (devWord c) 1#32, k0_pay8 (k0_pay2 (inX m c)) (k0_pay5 (inE m c)), k0_pay9, k0_pay10 (devWord c) (k0_pay3 (inX m c) (inR m c)) cols, k0_pay11 (k0_pay4 (inI m c)), k0_pay12 (devWord c)⟩) Q)
        -∗ exec c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (devWord c) (SemArray.scalar (sig.barrier 0 rfl)) (k0_pay2 (inX m c)) (k0_pay3 (inX m c) (inR m c)) (k0_pay4 (inI m c)) cols (k0_pay5 (inE m c)) (part m 0 c) >>= k) Q) := by
  simp only [k0_part3_eq_skeleton]; unfold k0_part3_skel
  simp only [semSignalWord, semWaitWord, Prog.lift, Prog.bind_op, Prog.bind_ret, Prog.pure_eq_ret, Prog.bind_assoc, wp_deviceId]

  iintro ⟨#HB, HI, Hc, Ha, HO⟩ Hk
  iapply (wp_peek 0 0) $$ HI; iintro %_ HI
  iapply (wp_stage 0 0 (part m 0 c) rfl) $$ HI; iintro HS
  iapply (wp_gather m K (l := ((dues c).drop 3)) rfl) $$ [Hc Ha HO]
  · isplitr; · iexact HB
    isplitl [Hc]; · iexact Hc
    isplitl [Ha]; · iexact Ha
    iexact HO
  iintro ⟨Ha, HO, HG, H01, H10, H11, H20, H21⟩
  iapply (wp_pass m K 0 0 (dev4_eq c) (l := ((dues c).drop 4))) $$ [HS HG HO]
  · isplitr; · iexact HB
    isplitl [HS]; · iexact HS
    isplitl [HG]; · iexact HG
    iexact HO
  iintro ⟨HF, HO⟩
  iapply Hk
  isplitl [HF]; · iexact HF
  isplitl [Ha]; · iexact Ha
  isplitl [H01]; · iexact H01
  isplitl [H10]; · iexact H10
  isplitl [H11]; · iexact H11
  isplitl [H20]; · iexact H20
  isplitl [H21]; · iexact H21
  iexact HO

/-- The part of the second row half, staged. -/
theorem part4 {k : (Σ' (v137 : FVec F S128x256 .f32), BitVec 32) → Prog (TpuEff nD τ sig (Elt F) Λ₀ .tc) α} {Q : α → sProp 𝕄} :
    iprop(idle 0 1 c)
      ⊢ iprop(((staged 0 1 c (pack (part m 1 c))) -∗ exec c (k ⟨part m 1 c, Scalar.xori (devWord c) 1#32⟩) Q)
        -∗ exec c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (devWord c) (k0_pay3 (inX m c) (inR m c)) (k0_pay4 (inI m c)) cols (k0_pay8 (k0_pay2 (inX m c)) (k0_pay5 (inE m c))) k0_pay9 (k0_pay10 (devWord c) (k0_pay3 (inX m c) (inR m c)) cols) (k0_pay11 (k0_pay4 (inI m c))) (k0_pay12 (devWord c)) >>= k) Q) := by
  simp only [k0_part4_eq_skeleton]; unfold k0_part4_skel
  simp only [semSignalWord, semWaitWord, Prog.lift, Prog.bind_op, Prog.bind_ret, Prog.pure_eq_ret, Prog.bind_assoc, wp_deviceId]

  iintro HI Hk
  iapply (wp_peek 0 1) $$ HI; iintro %_ HI
  iapply (wp_stage 0 1 (part m 1 c) rfl) $$ HI; iintro HS
  iapply Hk
  iexact HS

/-- Send the second half; the shared expert's product; the first half of step 0 arrives. -/
theorem part5 {v84 : BitVec 32} {k : FVec F S256x256 .f32 → Prog (TpuEff nD τ sig (Elt F) Λ₀ .tc) α} {Q : α → sProp 𝕄} :
    iprop(base m K ∗ staged 0 1 c (pack (part m 1 c)) ∗ gate 0 1 c ∗ flight 0 0 c ∗ holds c cc0_stg4_0 (inS m c) ∗ debt ((dues c).drop 4) c)
      ⊢ iprop(((flight 0 1 c ∗ landed m 0 0 c ∗ holds c cc0_stg4_0 (inS m c) ∗ debt ((dues c).drop 5) c) -∗ exec c (k (shared m c)) Q)
        -∗ exec c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (k0_pay2 (inX m c)) v84 >>= k) Q) := by
  simp only [k0_part5_eq_skeleton]; unfold k0_part5_skel
  simp only [semSignalWord, semWaitWord, Prog.lift, Prog.bind_op, Prog.bind_ret, Prog.pure_eq_ret, Prog.bind_assoc, wp_deviceId]

  iintro ⟨#HB, HS, HG, HW, HH, HO⟩ Hk
  iapply (wp_pass m K 0 1 (dev5_eq c) (l := ((dues c).drop 5))) $$ [HS HG HO]
  · isplitr; · iexact HB
    isplitl [HS]; · iexact HS
    isplitl [HG]; · iexact HG
    iexact HO
  iintro ⟨HF, HO⟩
  iapply (wp_load 𝒱₀ (c : Thread nD τ) none Set.univ (m := Memref.whole cc0_stg4_0) (Finset.subset_univ _)) $$ HH; iintro HH
  rw [read_4]
  iapply (wp_sent m K 0 0 (l := ((dues c).drop 5)) rfl (src := commM 0 0) (dst := sendM 0 0) rfl) $$ [HW HO]
  · isplitr; · iexact HB
    isplitl [HW]; · iexact HW
    iexact HO
  iintro ⟨HW, HO⟩
  iapply (wp_arrive m K 0 0 (l := ((dues c).drop 5)) rfl (src := sendM 0 0) (dst := commM 0 0) rfl) $$ [HW HO]
  · isplitr; · iexact HB
    isplitl [HW]; · iexact HW
    iexact HO
  iintro ⟨HW, HO⟩
  iapply Hk
  isplitl [HF]; · iexact HF
  isplitl [HW]; · iexact HW
  isplitl [HH]; · iexact HH
  iexact HO

/-- Add what arrived, stage and send it to the second partner. -/
theorem part6 {k : (Σ' (v173 : FVec F S128x256 .f32), BitVec 32) → Prog (TpuEff nD τ sig (Elt F) Λ₀ .tc) α} {Q : α → sProp 𝕄} :
    iprop(base m K ∗ landed m 0 0 c ∗ idle 1 0 c ∗ gate 1 0 c ∗ debt ((dues c).drop 5) c)
      ⊢ iprop(((landed m 0 0 c ∗ flight 1 0 c ∗ debt ((dues c).drop 6) c) -∗ exec c (k ⟨acc m 1 0 c, Scalar.xori (devWord c) 3#32⟩) Q)
        -∗ exec c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (devWord c) (acc m 0 0 c) >>= k) Q) := by
  simp only [k0_part6_eq_skeleton]; unfold k0_part6_skel
  simp only [semSignalWord, semWaitWord, Prog.lift, Prog.bind_op, Prog.bind_ret, Prog.pure_eq_ret, Prog.bind_assoc, wp_deviceId]

  iintro ⟨#HB, HW, HI, HG, HO⟩ Hk
  iapply (wp_take m 0 0) $$ HW; iintro HW
  iapply (wp_peek 1 0) $$ HI; iintro %_ HI
  iapply (wp_stage 1 0 (acc m 1 0 c) (pay17_boxed _ _)) $$ HI; iintro HS
  iapply (wp_pass m K 1 0 (dev6_eq c) (l := ((dues c).drop 6))) $$ [HS HG HO]
  · isplitr; · iexact HB
    isplitl [HS]; · iexact HS
    isplitl [HG]; · iexact HG
    iexact HO
  iintro ⟨HF, HO⟩
  rw [pay16_boxed]
  iapply Hk
  isplitl [HW]; · iexact HW
  isplitl [HF]; · iexact HF
  iexact HO

/-- The second half of step 0 arrives and is added; stage it. -/
theorem part7 {v142 : BitVec 32} {k : (Σ' (v206 : FVec F S128x256 .f32), BitVec 32) → Prog (TpuEff nD τ sig (Elt F) Λ₀ .tc) α} {Q : α → sProp 𝕄} :
    iprop(base m K ∗ flight 0 1 c ∗ idle 1 1 c ∗ debt ((dues c).drop 6) c)
      ⊢ iprop(((landed m 0 1 c ∗ staged 1 1 c (pack (acc m 1 1 c)) ∗ debt ((dues c).drop 6) c) -∗ exec c (k ⟨acc m 1 1 c, Scalar.xori (devWord c) 3#32⟩) Q)
        -∗ exec c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (devWord c) (acc m 0 1 c) v142 >>= k) Q) := by
  simp only [k0_part7_eq_skeleton]; unfold k0_part7_skel
  simp only [semSignalWord, semWaitWord, Prog.lift, Prog.bind_op, Prog.bind_ret, Prog.pure_eq_ret, Prog.bind_assoc, wp_deviceId]

  iintro ⟨#HB, HW, HI, HO⟩ Hk
  iapply (wp_sent m K 0 1 (l := ((dues c).drop 6)) rfl (src := commM 0 1) (dst := sendM 0 1) rfl) $$ [HW HO]
  · isplitr; · iexact HB
    isplitl [HW]; · iexact HW
    iexact HO
  iintro ⟨HW, HO⟩
  iapply (wp_arrive m K 0 1 (l := ((dues c).drop 6)) rfl (src := sendM 0 1) (dst := commM 0 1) rfl) $$ [HW HO]
  · isplitr; · iexact HB
    isplitl [HW]; · iexact HW
    iexact HO
  iintro ⟨HW, HO⟩
  iapply (wp_take m 0 1) $$ HW; iintro HW
  iapply (wp_peek 1 1) $$ HI; iintro %_ HI
  iapply (wp_stage 1 1 (acc m 1 1 c) (pay19_boxed _ _)) $$ HI; iintro HS
  rw [pay18_boxed]
  iapply Hk
  isplitl [HW]; · iexact HW
  isplitl [HS]; · iexact HS
  iexact HO

/-- Send the second half of step 1; the first half arrives and is added. -/
theorem part8 {v178 : BitVec 32} {k : (Σ' (v239 : FVec F S128x256 .f32), FVec F S128x256 .bf16) → Prog (TpuEff nD τ sig (Elt F) Λ₀ .tc) α} {Q : α → sProp 𝕄} :
    iprop(base m K ∗ staged 1 1 c (pack (acc m 1 1 c)) ∗ gate 1 1 c ∗ flight 1 0 c ∗ debt ((dues c).drop 6) c)
      ⊢ iprop(((flight 1 1 c ∗ landed m 1 0 c ∗ debt ((dues c).drop 7) c) -∗ exec c (k ⟨acc m 2 0 c, pack (acc m 2 0 c)⟩) Q)
        -∗ exec c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (acc m 1 0 c) v178 >>= k) Q) := by
  simp only [k0_part8_eq_skeleton]; unfold k0_part8_skel
  simp only [semSignalWord, semWaitWord, Prog.lift, Prog.bind_op, Prog.bind_ret, Prog.pure_eq_ret, Prog.bind_assoc, wp_deviceId]

  iintro ⟨#HB, HS, HG, HW, HO⟩ Hk
  iapply (wp_pass m K 1 1 (dev7_eq c) (l := ((dues c).drop 7))) $$ [HS HG HO]
  · isplitr; · iexact HB
    isplitl [HS]; · iexact HS
    isplitl [HG]; · iexact HG
    iexact HO
  iintro ⟨HF, HO⟩
  iapply (wp_sent m K 1 0 (l := ((dues c).drop 7)) rfl (src := commM 1 0) (dst := sendM 1 0) rfl) $$ [HW HO]
  · isplitr; · iexact HB
    isplitl [HW]; · iexact HW
    iexact HO
  iintro ⟨HW, HO⟩
  iapply (wp_arrive m K 1 0 (l := ((dues c).drop 7)) rfl (src := sendM 1 0) (dst := commM 1 0) rfl) $$ [HW HO]
  · isplitr; · iexact HB
    isplitl [HW]; · iexact HW
    iexact HO
  iintro ⟨HW, HO⟩
  iapply (wp_take m 1 0) $$ HW; iintro HW
  rw [pay20_boxed, pay21_boxed]
  iapply Hk
  isplitl [HF]; · iexact HF
  isplitl [HW]; · iexact HW
  iexact HO

/-- Stage and send the first half to the third partner. -/
theorem part9 {k : BitVec 32 → Prog (TpuEff nD τ sig (Elt F) Λ₀ .tc) α} {Q : α → sProp 𝕄} :
    iprop(base m K ∗ idle 2 0 c ∗ gate 2 0 c ∗ flight 1 1 c ∗ debt ((dues c).drop 7) c)
      ⊢ iprop(((flight 2 0 c ∗ back 1 1 c ∗ debt ((dues c).drop 8) c) -∗ exec c (k (Scalar.xori (devWord c) 4#32)) Q)
        -∗ exec c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (devWord c) (pack (acc m 2 0 c)) >>= k) Q) := by
  simp only [k0_part9_eq_skeleton]; unfold k0_part9_skel
  simp only [semSignalWord, semWaitWord, Prog.lift, Prog.bind_op, Prog.bind_ret, Prog.pure_eq_ret, Prog.bind_assoc, wp_deviceId]

  iintro ⟨#HB, HI, HG, HW, HO⟩ Hk
  iapply (wp_peek 2 0) $$ HI; iintro %_ HI
  iapply (wp_stage 2 0 (acc m 2 0 c) rfl) $$ HI; iintro HS
  iapply (wp_pass m K 2 0 (dev8_eq c) (l := ((dues c).drop 8))) $$ [HS HG HO]
  · isplitr; · iexact HB
    isplitl [HS]; · iexact HS
    isplitl [HG]; · iexact HG
    iexact HO
  iintro ⟨HF, HO⟩
  iapply (wp_sent m K 1 1 (l := ((dues c).drop 8)) rfl (src := commM 1 1) (dst := sendM 1 1) rfl) $$ [HW HO]
  · isplitr; · iexact HB
    isplitl [HW]; · iexact HW
    iexact HO
  iintro ⟨HW, HO⟩
  iapply Hk
  isplitl [HF]; · iexact HF
  isplitl [HW]; · iexact HW
  iexact HO

/-- The second half of step 1 arrives and is added; stage it. -/
theorem part10 {v211 : BitVec 32} {k : (Σ' (v272 : FVec F S128x256 .f32), BitVec 32) → Prog (TpuEff nD τ sig (Elt F) Λ₀ .tc) α} {Q : α → sProp 𝕄} :
    iprop(base m K ∗ back 1 1 c ∗ idle 2 1 c ∗ debt ((dues c).drop 8) c)
      ⊢ iprop(((landed m 1 1 c ∗ staged 2 1 c (pack (acc m 2 1 c)) ∗ debt ((dues c).drop 8) c) -∗ exec c (k ⟨acc m 2 1 c, Scalar.xori (devWord c) 4#32⟩) Q)
        -∗ exec c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 (devWord c) (acc m 1 1 c) v211 >>= k) Q) := by
  simp only [k0_part10_eq_skeleton]; unfold k0_part10_skel
  simp only [semSignalWord, semWaitWord, Prog.lift, Prog.bind_op, Prog.bind_ret, Prog.pure_eq_ret, Prog.bind_assoc, wp_deviceId]

  iintro ⟨#HB, HW, HI, HO⟩ Hk
  iapply (wp_arrive m K 1 1 (l := ((dues c).drop 8)) rfl (src := sendM 1 1) (dst := commM 1 1) rfl) $$ [HW HO]
  · isplitr; · iexact HB
    isplitl [HW]; · iexact HW
    iexact HO
  iintro ⟨HW, HO⟩
  iapply (wp_take m 1 1) $$ HW; iintro HW
  iapply (wp_peek 2 1) $$ HI; iintro %_ HI
  iapply (wp_stage 2 1 (acc m 2 1 c) (pay24_boxed _ _)) $$ HI; iintro HS
  rw [pay23_boxed]
  iapply Hk
  isplitl [HW]; · iexact HW
  isplitl [HS]; · iexact HS
  iexact HO

/-- Send the second half of step 2; the first half arrives and is added. -/
theorem part11 {v244 : BitVec 32} {k : FVec F S128x256 .f32 → Prog (TpuEff nD τ sig (Elt F) Λ₀ .tc) α} {Q : α → sProp 𝕄} :
    iprop(base m K ∗ staged 2 1 c (pack (acc m 2 1 c)) ∗ gate 2 1 c ∗ flight 2 0 c ∗ debt ((dues c).drop 8) c)
      ⊢ iprop(((flight 2 1 c ∗ landed m 2 0 c ∗ debt ((dues c).drop 9) c) -∗ exec c (k (acc m 3 0 c)) Q)
        -∗ exec c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 c (acc m 2 0 c) v244 >>= k) Q) := by
  simp only [k0_part11_eq_skeleton]; unfold k0_part11_skel
  simp only [semSignalWord, semWaitWord, Prog.lift, Prog.bind_op, Prog.bind_ret, Prog.pure_eq_ret, Prog.bind_assoc, wp_deviceId]

  iintro ⟨#HB, HS, HG, HW, HO⟩ Hk
  iapply (wp_pass m K 2 1 (dev9_eq c) (l := ((dues c).drop 9))) $$ [HS HG HO]
  · isplitr; · iexact HB
    isplitl [HS]; · iexact HS
    isplitl [HG]; · iexact HG
    iexact HO
  iintro ⟨HF, HO⟩
  iapply (wp_sent m K 2 0 (l := ((dues c).drop 9)) rfl (src := commM 2 0) (dst := sendM 2 0) rfl) $$ [HW HO]
  · isplitr; · iexact HB
    isplitl [HW]; · iexact HW
    iexact HO
  iintro ⟨HW, HO⟩
  iapply (wp_arrive m K 2 0 (l := ((dues c).drop 9)) rfl (src := sendM 2 0) (dst := commM 2 0) rfl) $$ [HW HO]
  · isplitr; · iexact HB
    isplitl [HW]; · iexact HW
    iexact HO
  iintro ⟨HW, HO⟩
  iapply (wp_take m 2 0) $$ HW; iintro HW
  rw [pay25_boxed]
  iapply Hk
  isplitl [HF]; · iexact HF
  isplitl [HW]; · iexact HW
  iexact HO

end Parts

end Cert.Exchange

end
-- ==== Proof.Body.lean ====
/-
# The body as a whole

The result's two row halves are stored after the last arrivals. Here the parts are put in sequence, the cells are closed
and the exchange buffers are put together again.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## The result -/

abbrev outB : Memref sig .tc .vmem S256x256 .f32 := Memref.whole cc0_stg5_0
abbrev rowsLo : Rect S256x256 := Rect.unit (s := S256x256) ![0, 0] S128x256.size inb_S256x256_S128x256_0_0
abbrev rowsHi : Rect S256x256 := Rect.unit (s := S256x256) ![128, 0] S128x256.size inb_S256x256_S128x256_128_0

/-- A buffer with its upper and then its lower row half replaced. -/
def halves (f : (cc0_stg5_0 : Ref sig .tc).ty.Contents (Elt F)) (lo hi : FVec F S128x256 .f32) : (cc0_stg5_0 : Ref sig .tc).ty.Contents (Elt F) :=
  (outB.access rowsHi).write (Elt F) ((outB.access rowsLo).write (Elt F) f lo Finset.univ) hi Finset.univ

theorem rows_cover (i : S256x256.Idx) : (∃ x : S128x256.Idx, i = rowsLo.emb x) ∨ ∃ x : S128x256.Idx, i = rowsHi.emb x := by
  have h0 : (i 0).val < 256 := (i 0).isLt
  have h1 : (i 1).val < 256 := (i 1).isLt
  by_cases h : (i 0).val < 128
  · refine .inl ⟨fun | 0 => ⟨(i 0).val, h⟩ | 1 => ⟨(i 1).val, h1⟩, funext fun a => ?_⟩
    match a with
    | 0 => exact Fin.ext (by show _ = 0 + 1 * (i 0).val; omega)
    | 1 => exact Fin.ext (by show _ = 0 + 1 * (i 1).val; omega)
  · refine .inr ⟨fun | 0 => ⟨(i 0).val - 128, by show _ < 128; omega⟩ | 1 => ⟨(i 1).val, h1⟩, funext fun a => ?_⟩
    match a with
    | 0 => exact Fin.ext (by show _ = 128 + 1 * ((i 0).val - 128); omega)
    | 1 => exact Fin.ext (by show _ = 0 + 1 * (i 1).val; omega)

theorem halves_hi (f) (lo hi : FVec F S128x256 .f32) (x : S128x256.Idx) : halves f lo hi (rowsHi.emb x) = hi x :=
  (View.write_emb_of_mem (v := outB.access rowsHi) (Val := Elt F) _ hi (Finset.mem_univ x)).trans (cast_eq _ _)
theorem halves_lo (f) (lo hi : FVec F S128x256 .f32) (x : S128x256.Idx) : halves f lo hi (rowsLo.emb x) = lo x := by
  unfold halves
  rw [View.write_of_not_mem]
  · exact (View.write_emb_of_mem (v := outB.access rowsLo) (Val := Elt F) f lo (Finset.mem_univ x)).trans (cast_eq _ _)
  · intro hm
    obtain ⟨y, -, e⟩ := Finset.mem_map.mp hm
    have e0 : 128 + 1 * (y 0).val = 0 + 1 * (x 0).val := congrArg (fun i : S256x256.Idx => (i 0).val) e
    have hx : (x 0).val < 128 := (x 0).isLt
    omega

theorem halves_any (f g) (lo hi : FVec F S128x256 .f32) : halves f lo hi = halves g lo hi := by
  funext i
  rcases rows_cover i with ⟨x, rfl⟩ | ⟨x, rfl⟩
  · rw [halves_lo, halves_lo]
  · rw [halves_hi, halves_hi]

/-- The result: both finished sums with the shared expert's product added. -/
def outAt (c : Dev nD) : (cc0_stg5_0 : Ref sig .tc).ty.Contents (Elt F) :=
  halves (shared m c) (k0_pay27 (shared m c) (acc m 3 0 c)) (k0_pay1 (shared m c) (acc m 3 1 c))

/-! ## What the device holds at the start and at the end -/

/-- The permissions to pay and to wait a device starts with. -/
def linear (c : Dev nD) : sProp 𝕄 :=
  iprop(atPos ER (barCell c) 0 ∅ 0 ∗ (dutyTok ER (barCell (peer 0 c)) 0 0 ∗ dutyTok ER (barCell (peer 1 c)) 0 1 ∗ dutyTok ER (barCell (peer 2 c)) 0 2)
    ∗ bigSep Finset.univ fun b : Fin 3 × Fin 2 => iprop(chanToks b.1 b.2 c ∗ chanPos b.1 b.2 c))
/-- What the partners owe it. -/
def dueHere (c : Dev nD) : sProp 𝕄 :=
  iprop(cred (tallyAt (barCell c) () 3) ∗ bigSep Finset.univ fun b : Fin 3 × Fin 2 => cred (tallyAt (recvCell b.1 b.2 c) () N))
def ghost (K : Dev nD × Fin 13 → ℕ) (c : Dev nD) : sProp 𝕄 := iprop(records m K ∗ linear c)
def start (c : Dev nD) : sProp 𝕄 := iprop((∃ K, ghost m K c) ∗ dueHere c ∗ levAts L lv)
/-- The exchange buffers. -/
def buffers (c : Dev nD) : sProp 𝕄 :=
  iprop((∃ f, (c : Thread nD τ).loc cc0_scratch0 ↦{fullShare} f) ∗ ∃ f, (c : Thread nD τ).loc cc0_scratch1 ↦{fullShare} f)
/-- All cells closed at zero. -/
def zeros (c : Dev nD) : sProp 𝕄 :=
  iprop(semVal (barCell c) 0 ∗ bigSep Finset.univ fun b : Fin 3 × Fin 2 => iprop(semVal (sendCell b.1 b.2 c) 0 ∗ semVal (recvCell b.1 b.2 c) 0))
def Φ₀ (c : Dev nD) : sProp 𝕄 := iprop(start m c ∗ buffers c)
def Φ₁ (c : Dev nD) : sProp 𝕄 := iprop(buffers (F := F) c ∗ zeros c)

set_option maxRecDepth 4000 in
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inR m c
    | ⟨2, _⟩ => inI m c
    | ⟨3, _⟩ => inE m c
    | ⟨4, _⟩ => inS m c
    | ⟨5, _⟩ => outAt m c
  Φ t := match t with
    | ⟨0, _⟩ => Φ₀ m c
    | ⟨_ + 1, _⟩ => Φ₁ c
  q _ := fullShare
  owed t := match t with
    | ⟨0, _⟩ => oweL (dues c)
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

section Body
variable (K : Dev nD × Fin 13 → ℕ)

/-- A channel at the end: its two cells closed, its two slots back. -/
theorem chan_close (s : Fin 3) (h : Fin 2) (c : Dev nD) :
    iprop(base m K ∗ landed m s h c) ⊢ |={Set.univ}=> ((semVal (sendCell s h c) 0 ∗ semVal (recvCell s h c) 0) ∗ (∃ f, commPts s h c f) ∗ ∃ f, sendPts s h c f) := by
  unfold landed recvPay
  iintro ⟨#HB, ⟨Ha, Hs⟩, Hb, ⟨%f, -, Hf⟩⟩
  imod (Rounds.cell_close ER (rd m) (Set.mem_univ (K (c, sendK s h))) (fun h => h) (R := 0 + 1) (duties_later m (sendCell s h c))) $$ [Ha] with Hz1
  · isplitr; · iapply (inv_send m K s h c); iexact HB
    iexact Ha
  imod (Rounds.cell_close ER (rd m) (Set.mem_univ (K (c, recvK s h))) (fun h => h) (R := 0 + 1) (duties_later m (recvCell s h c))) $$ [Hb] with Hz2
  · isplitr; · iapply (inv_recv m K s h c); iexact HB
    iexact Hb
  imodintro
  isplitl [Hz1 Hz2]
  · isplitl [Hz1] <;> iassumption
  isplitl [Hf]; · iexists f; iexact Hf
  iexact Hs

def bodyPre (c : Dev nD) : sProp 𝕄 :=
  iprop((ghost m K c ∗ dueHere c ∗ levAts L lv ∗ buffers c) ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d)) ∗ (∃ d, stg c cc0_stg2_0 ((dats m ρ 0 c).before (2 : Fin 6) t0_0 d)) ∗ (∃ d, stg c cc0_stg3_0 ((dats m ρ 0 c).before (3 : Fin 6) t0_0 d)) ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ
    ∗ stg c cc0_stg0_0 (inX m c) ∗ stg c cc0_stg1_0 (inR m c) ∗ stg c cc0_stg2_0 (inI m c) ∗ stg c cc0_stg3_0 (inE m c) ∗ stg c cc0_stg4_0 (inS m c) ∗ stg c cc0_stg5_0 (outAt m c))

set_option maxHeartbeats 1600000 in
/-- The body runs from the start to the end. -/
theorem sound_body (c : Dev nD) (Kt : PUnit → sProp 𝕄) :
    iprop(bodyPre m ρ K c ∗ (bodyPost m ρ c -∗ Kt ⟨⟩))
      ⊢ exec c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part12_eq_skeleton]; unfold k0_part12_skel
  simp only [Prog.lift, Prog.bind_op, Prog.bind_ret, Prog.pure_eq_ret, Prog.bind_assoc]
  unfold bodyPre ghost linear dueHere buffers
  rw [six, six]
  iintro ⟨⟨⟨⟨#HR0, Ha, ⟨Ht0, Ht1, Ht2⟩, HT00, HT01, HT10, HT11, HT20, HT21⟩, ⟨Hcb, HC00, HC01, HC10, HC11, HC20, HC21⟩, #Hlev, Hcomm, Hsend⟩, Ho,
    ⟨%d0, %g0, %hg0, HA0⟩, ⟨%d1, %g1, %hg1, HA1⟩, ⟨%d2, %g2, %hg2, HA2⟩, ⟨%d3, %g3, %hg3, HA3⟩, ⟨%d4, %g4, %hg4, HA4⟩, ⟨%d5, %g5, %hg5, HA5⟩⟩, Hk⟩
  have hx0 : g0 = inX m c := by rw [hg0]; unfold Dat.before; rw [if_pos (fetch0_0 t0_0)]; rfl
  subst hx0
  have hx1 : g1 = inR m c := by rw [hg1]; unfold Dat.before; rw [if_pos (fetch0_1 t0_0)]; rfl
  subst hx1
  have hx2 : g2 = inI m c := by rw [hg2]; unfold Dat.before; rw [if_pos (fetch0_2 t0_0)]; rfl
  subst hx2
  have hx3 : g3 = inE m c := by rw [hg3]; unfold Dat.before; rw [if_pos (fetch0_3 t0_0)]; rfl
  subst hx3
  have hx4 : g4 = inS m c := by rw [hg4]; unfold Dat.before; rw [if_pos (fetch0_4 t0_0)]; rfl
  subst hx4
  unfold Dat.owesAt Pipeline.owesWithin
  icases Ho with ⟨%W, %hW, HO⟩
  rw [show (dats m ρ 0 c).owed t0_0.castSucc = oweL (dues c) from rfl]
  ihave HO := (show owes (c : Thread nD τ) (oweL (dues c)) W ⊢ (debt (dues c) c : sProp 𝕄) from by unfold debt; iintro H; iexists W; iexact H) $$ HO
  ihave #HB := (show iprop(records m K ∗ levAts L lv) ⊢ base m K from Entails.refl _) $$ [HR0 Hlev]
  · isplitr <;> iassumption
  ihave Hcomm := (comm_split c) $$ Hcomm
  icases Hcomm with ⟨Hcomm, Hcr⟩
  ihave Hsend := (send_split c) $$ Hsend
  icases Hsend with ⟨⟨HD00, HD01, HD10, HD11, HD20, HD21⟩, Hsr⟩
  ihave HI00 := (show iprop((chanToks 0 0 c ∗ chanPos 0 0 c) ∗ cred (tallyAt (recvCell 0 0 c) () N) ∗ ∃ f, sendPts 0 0 c f) ⊢ (idle 0 0 c : sProp 𝕄) from by
    unfold idle; iintro ⟨⟨H1, H2⟩, H3, H4⟩; isplitl [H1]; · iexact H1
    isplitl [H2]; · iexact H2
    isplitl [H3] <;> iassumption) $$ [HT00 HC00 HD00]
  · isplitl [HT00]; · iexact HT00
    isplitl [HC00] <;> iassumption
  ihave HI01 := (show iprop((chanToks 0 1 c ∗ chanPos 0 1 c) ∗ cred (tallyAt (recvCell 0 1 c) () N) ∗ ∃ f, sendPts 0 1 c f) ⊢ (idle 0 1 c : sProp 𝕄) from by
    unfold idle; iintro ⟨⟨H1, H2⟩, H3, H4⟩; isplitl [H1]; · iexact H1
    isplitl [H2]; · iexact H2
    isplitl [H3] <;> iassumption) $$ [HT01 HC01 HD01]
  · isplitl [HT01]; · iexact HT01
    isplitl [HC01] <;> iassumption
  ihave HI10 := (show iprop((chanToks 1 0 c ∗ chanPos 1 0 c) ∗ cred (tallyAt (recvCell 1 0 c) () N) ∗ ∃ f, sendPts 1 0 c f) ⊢ (idle 1 0 c : sProp 𝕄) from by
    unfold idle; iintro ⟨⟨H1, H2⟩, H3, H4⟩; isplitl [H1]; · iexact H1
    isplitl [H2]; · iexact H2
    isplitl [H3] <;> iassumption) $$ [HT10 HC10 HD10]
  · isplitl [HT10]; · iexact HT10
    isplitl [HC10] <;> iassumption
  ihave HI11 := (show iprop((chanToks 1 1 c ∗ chanPos 1 1 c) ∗ cred (tallyAt (recvCell 1 1 c) () N) ∗ ∃ f, sendPts 1 1 c f) ⊢ (idle 1 1 c : sProp 𝕄) from by
    unfold idle; iintro ⟨⟨H1, H2⟩, H3, H4⟩; isplitl [H1]; · iexact H1
    isplitl [H2]; · iexact H2
    isplitl [H3] <;> iassumption) $$ [HT11 HC11 HD11]
  · isplitl [HT11]; · iexact HT11
    isplitl [HC11] <;> iassumption
  ihave HI20 := (show iprop((chanToks 2 0 c ∗ chanPos 2 0 c) ∗ cred (tallyAt (recvCell 2 0 c) () N) ∗ ∃ f, sendPts 2 0 c f) ⊢ (idle 2 0 c : sProp 𝕄) from by
    unfold idle; iintro ⟨⟨H1, H2⟩, H3, H4⟩; isplitl [H1]; · iexact H1
    isplitl [H2]; · iexact H2
    isplitl [H3] <;> iassumption) $$ [HT20 HC20 HD20]
  · isplitl [HT20]; · iexact HT20
    isplitl [HC20] <;> iassumption
  ihave HI21 := (show iprop((chanToks 2 1 c ∗ chanPos 2 1 c) ∗ cred (tallyAt (recvCell 2 1 c) () N) ∗ ∃ f, sendPts 2 1 c f) ⊢ (idle 2 1 c : sProp 𝕄) from by
    unfold idle; iintro ⟨⟨H1, H2⟩, H3, H4⟩; isplitl [H1]; · iexact H1
    isplitl [H2]; · iexact H2
    isplitl [H3] <;> iassumption) $$ [HT21 HC21 HD21]
  · isplitl [HT21]; · iexact HT21
    isplitl [HC21] <;> iassumption
  iapply (part1 m K) $$ [Ht0 Ht1 Ht2 Hcomm HO HA0 HA1 HA2]
  · isplitr; · iexact HB
    isplitl [Ht0]; · iexact Ht0
    isplitl [Ht1]; · iexact Ht1
    isplitl [Ht2]; · iexact Ht2
    isplitl [Hcomm]; · iexact Hcomm
    isplitl [HO]; · iexact HO
    isplitl [HA0]; · iexact HA0
    isplitl [HA1]; · iexact HA1
    iexact HA2
  iintro ⟨HO, HA0, HA1, HA2⟩
  try dsimp only []
  iapply (part2 m) $$ [HA3]
  · iexact HA3
  iintro HA3
  try dsimp only []
  iapply (part3 m K) $$ [HI00 Hcb Ha HO]
  · isplitr; · iexact HB
    isplitl [HI00]; · iexact HI00
    isplitl [Hcb]; · iexact Hcb
    isplitl [Ha]; · iexact Ha
    iexact HO
  iintro ⟨HF00, Ha, HG01, HG10, HG11, HG20, HG21, HO⟩
  try dsimp only []
  iapply (part4 m) $$ [HI01]
  · iexact HI01
  iintro HS01
  try dsimp only []
  iapply (part5 m K) $$ [HS01 HG01 HF00 HA4 HO]
  · isplitr; · iexact HB
    isplitl [HS01]; · iexact HS01
    isplitl [HG01]; · iexact HG01
    isplitl [HF00]; · iexact HF00
    isplitl [HA4]; · iexact HA4
    iexact HO
  iintro ⟨HF01, HL00, HA4, HO⟩
  try dsimp only []
  iapply (part6 m K) $$ [HL00 HI10 HG10 HO]
  · isplitr; · iexact HB
    isplitl [HL00]; · iexact HL00
    isplitl [HI10]; · iexact HI10
    isplitl [HG10]; · iexact HG10
    iexact HO
  iintro ⟨HL00, HF10, HO⟩
  try dsimp only []
  iapply (part7 m K) $$ [HF01 HI11 HO]
  · isplitr; · iexact HB
    isplitl [HF01]; · iexact HF01
    isplitl [HI11]; · iexact HI11
    iexact HO
  iintro ⟨HL01, HS11, HO⟩
  try dsimp only []
  iapply (part8 m K) $$ [HS11 HG11 HF10 HO]
  · isplitr; · iexact HB
    isplitl [HS11]; · iexact HS11
    isplitl [HG11]; · iexact HG11
    isplitl [HF10]; · iexact HF10
    iexact HO
  iintro ⟨HF11, HL10, HO⟩
  try dsimp only []
  iapply (part9 m K) $$ [HI20 HG20 HF11 HO]
  · isplitr; · iexact HB
    isplitl [HI20]; · iexact HI20
    isplitl [HG20]; · iexact HG20
    isplitl [HF11]; · iexact HF11
    iexact HO
  iintro ⟨HF20, HB11, HO⟩
  try dsimp only []
  iapply (part10 m K) $$ [HB11 HI21 HO]
  · isplitr; · iexact HB
    isplitl [HB11]; · iexact HB11
    isplitl [HI21]; · iexact HI21
    iexact HO
  iintro ⟨HL11, HS21, HO⟩
  try dsimp only []
  iapply (part11 m K) $$ [HS21 HG21 HF20 HO]
  · isplitr; · iexact HB
    isplitl [HS21]; · iexact HS21
    isplitl [HG21]; · iexact HG21
    isplitl [HF20]; · iexact HF20
    iexact HO
  iintro ⟨HF21, HL20, HO⟩
  try dsimp only []
  iapply (wp_sent m K 2 1 (l := ((dues c).drop 9)) rfl (src := commM 2 1) (dst := sendM 2 1) rfl) $$ [HF21 HO]
  · isplitr; · iexact HB
    isplitl [HF21]; · iexact HF21
    iexact HO
  iintro ⟨HF21, HO⟩
  iapply (wp_arrive m K 2 1 (l := ((dues c).drop 9)) rfl (src := sendM 2 1) (dst := commM 2 1) rfl) $$ [HF21 HO]
  · isplitr; · iexact HB
    isplitl [HF21]; · iexact HF21
    iexact HO
  iintro ⟨HF21, HO⟩
  iapply (wp_take m 2 1) $$ HF21; iintro HF21
  rw [pay26_boxed]
  iapply (wp_load 𝒱₀ (c : Thread nD τ) none Set.univ (m := outB) (Finset.subset_univ _)) $$ HA5; iintro HA5
  iapply (wp_store 𝒱₀ (c : Thread nD τ) none Set.univ (m := outB) (r := rowsLo) (Mk := Finset.univ) (Finset.subset_univ _)) $$ HA5; iintro HA5
  iapply (wp_load 𝒱₀ (c : Thread nD τ) none Set.univ (m := outB) (Finset.subset_univ _)) $$ HA5; iintro HA5
  iapply (wp_store 𝒱₀ (c : Thread nD τ) none Set.univ (m := outB) (r := rowsHi) (Mk := Finset.univ) (Finset.subset_univ _)) $$ HA5; iintro HA5
  rw [show (outB.access rowsHi).write (Elt F) ((outB.access rowsLo).write (Elt F) g5 (k0_pay27 (shared m c) (acc m 3 0 c)) Finset.univ)
      (k0_pay1 (shared m c) (join (acc m 2 1 c) (sent m 2 1 (peer 2 c)))) Finset.univ = outAt m c from halves_any g5 (shared m c) _ _]
  imod (Rounds.cell_close ER (rd m) (Set.mem_univ (K (c, 0))) (fun h => h) (R := 0 + 1) (duties_later m (barCell c))) $$ [Ha] with Hz
  · isplitr; · iapply (inv_bar m K c); iexact HB
    iexact Ha
  imod (chan_close m K 0 0 c) $$ [HL00] with ⟨HZ00, HP00, HD00⟩
  · isplitr; · iexact HB
    iexact HL00
  imod (chan_close m K 0 1 c) $$ [HL01] with ⟨HZ01, HP01, HD01⟩
  · isplitr; · iexact HB
    iexact HL01
  imod (chan_close m K 1 0 c) $$ [HL10] with ⟨HZ10, HP10, HD10⟩
  · isplitr; · iexact HB
    iexact HL10
  imod (chan_close m K 1 1 c) $$ [HL11] with ⟨HZ11, HP11, HD11⟩
  · isplitr; · iexact HB
    iexact HL11
  imod (chan_close m K 2 0 c) $$ [HL20] with ⟨HZ20, HP20, HD20⟩
  · isplitr; · iexact HB
    iexact HL20
  imod (chan_close m K 2 1 c) $$ [HF21] with ⟨HZ21, HP21, HD21⟩
  · isplitr; · iexact HB
    iexact HF21
  ihave Hcomm := (comm_join c) $$ [HP00 HP01 HP10 HP11 HP20 HP21 Hcr]
  · isplitr [Hcr]
    · isplitl [HP00]; · iexact HP00
      isplitl [HP01]; · iexact HP01
      isplitl [HP10]; · iexact HP10
      isplitl [HP11]; · iexact HP11
      isplitl [HP20]; · iexact HP20
      iexact HP21
    iexact Hcr
  ihave Hsend := (send_join c) $$ [HD00 HD01 HD10 HD11 HD20 HD21 Hsr]
  · isplitr [Hsr]
    · isplitl [HD00]; · iexact HD00
      isplitl [HD01]; · iexact HD01
      isplitl [HD10]; · iexact HD10
      isplitl [HD11]; · iexact HD11
      isplitl [HD20]; · iexact HD20
      iexact HD21
    iexact Hsr
  rw [wp_ret]; imodintro
  iapply Hk
  unfold bodyPost Φ₁ buffers zeros Dat.owesAt Pipeline.owesWithin debt
  rw [six, show (dats m ρ 0 c).owed t0_0.succ = 0 from rfl]
  isplitl [Hcomm Hsend Hz HZ00 HZ01 HZ10 HZ11 HZ20 HZ21]
  · isplitl [Hcomm Hsend]
    · isplitl [Hcomm]; · iexact Hcomm
      iexact Hsend
    isplitl [Hz]; · iexact Hz
    isplitl [HZ00]; · iexact HZ00
    isplitl [HZ01]; · iexact HZ01
    isplitl [HZ10]; · iexact HZ10
    isplitl [HZ11]; · iexact HZ11
    isplitl [HZ20]; · iexact HZ20
    iexact HZ21
  isplitl [HO]
  · icases HO with ⟨%W', HO⟩
    iexists W'
    isplitr; · ipureintro; exact fun _ _ => Or.inl trivial
    iexact HO
  isplitl [HA0]
  · iexists _; isplitr; · (ipureintro; rfl)
    iexact HA0
  isplitl [HA1]
  · iexists _; isplitr; · (ipureintro; rfl)
    iexact HA1
  isplitl [HA2]
  · iexists _; isplitr; · (ipureintro; rfl)
    iexact HA2
  isplitl [HA3]
  · iexists _; isplitr; · (ipureintro; rfl)
    iexact HA3
  isplitl [HA4]
  · iexists _; isplitr; · (ipureintro; rfl)
    iexact HA4
  iexists _; isplitr; · (ipureintro; rfl)
  iexact HA5

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d)) ∗ (∃ d, stg c cc0_stg2_0 ((dats m ρ 0 c).before (2 : Fin 6) t0_0 d)) ∗ (∃ d, stg c cc0_stg3_0 ((dats m ρ 0 c).before (3 : Fin 6) t0_0 d)) ∗ (∃ d, stg c cc0_stg4_0 ((dats m ρ 0 c).before (4 : Fin 6) t0_0 d)) ∗ (∃ d, stg c cc0_stg5_0 ((dats m ρ 0 c).before (5 : Fin 6) t0_0 d)))

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ exec c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hd, Hl⟩, Hb⟩, Hrest⟩
  iapply (sound_body m ρ K c fun _ => bodyPost m ρ c)
  unfold bodyPre
  isplitr []
  · isplitl [Hg Hd Hl Hb]
    · isplitl [Hg]; · iexact Hg
      isplitl [Hd]; · iexact Hd
      isplitl [Hl] <;> iassumption
    iexact Hrest
  · iintro H; iexact H

end Body

end Cert.Exchange

end
-- ==== Proof.Start.lean ====
/-
# The launch

All devices' cells are opened under one update, the permissions to pay are dealt to the partners who pay, and the
launch theorem then gives the run of the whole program, for any float values.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, told apart -/

set_option backward.proofsInPublic true in
/-- The launch's own semaphores: the copies', not the barrier. -/
abbrev osem : Fin 12 → SemLoc sig := fun j => .dma ⟨6 + j.val, by have := j.isLt; show _ < 18; omega⟩

theorem ownSemFacts : Pipeline.OwnSemFacts cfg0.spec osem := by decide

theorem share_eq (c : Dev nD) (w : Fin cfg0.W) : (dats m ρ 0 c).share w = fullShare := by unfold Dat.share; split <;> rfl

theorem ksem_injective : Function.Injective ksem := by decide
theorem kcell_injective : Function.Injective (kcell : Dev nD × Fin 13 → GSem nD τ sig) := fun a b h =>
  Prod.ext (congrArg (fun g : GSem nD τ sig => g.1.1) h) (ksem_injective (congrArg Prod.snd h))
/-- Every cell of the exchange. -/
def allCells : Finset (GSem nD τ sig) := Finset.univ.map ⟨kcell, kcell_injective⟩

/-- One permission for each cell and each of three payers; the copies' cells use the first alone. -/
abbrev tokOf (x : (Dev nD × Fin 13) × Fin 3) : GSem nD τ sig × ℕ × Fin 3 := (kcell x.1, 0, x.2)
theorem tokOf_injective : Function.Injective tokOf := fun a b h =>
  Prod.ext (kcell_injective (congrArg Prod.fst h)) (congrArg (fun x : GSem nD τ sig × ℕ × Fin 3 => x.2.2) h)
def allToks : Finset (GSem nD τ sig × ℕ × Fin 3) := Finset.univ.map ⟨tokOf, tokOf_injective⟩

/-- The launch's element: the staging pipeline's part, and the exchange's. -/
def u₀ : UU := (initOf (Pipeline.cells cfgs cellOf_inj) (Pipeline.launchToks cfgs cellOf_inj), initOf allCells allToks)

/-- What a device is dealt of its own cells. -/
def G (c : Dev nD) : sProp 𝕄 :=
  iprop((bigSep Finset.univ fun k : Fin 13 => roundState ER (rd m) (kcell (c, k)) 0)
    ∗ (bigSep Finset.univ fun k : Fin 13 => atPos ER (kcell (c, k)) 0 ∅ 0)
    ∗ (bigSep Finset.univ fun k : Fin 13 => reached ER (kcell (c, k)) 0)
    ∗ bigSep Finset.univ fun k : Fin 13 => bigSep Finset.univ fun d : Fin 3 => dutyTok ER (kcell (c, k)) 0 d)
/-- What it starts with once all cells are open. -/
def G' (c : Dev nD) : sProp 𝕄 := iprop(∃ K, ghost m K c)

theorem over_cells {A : GSem nD τ sig → sProp 𝕄} :
    bigSep allCells A = bigSep Finset.univ fun c : Dev nD => bigSep Finset.univ fun k : Fin 13 => A (kcell (c, k)) := by
  unfold allCells; rw [bigSep_map, bigSep_univ_prod]; rfl

theorem fund_cells : BI.own (ER (initOf allCells allToks)) ⊢ (|==> bigSep Finset.univ (G m) : sProp 𝕄) := by
  have hT : bigSep allToks (fun x => (dutyTok ER x.1 x.2.1 x.2.2 : sProp 𝕄))
      = bigSep Finset.univ fun c : Dev nD => bigSep Finset.univ fun k : Fin 13 => bigSep Finset.univ fun d : Fin 3 => dutyTok ER (kcell (c, k)) 0 d := by
    unfold allToks; rw [bigSep_map, bigSep_univ_prod, bigSep_univ_prod]; rfl
  iintro H
  imod (Rounds.fund ER (rd m) allCells allToks) $$ H with ⟨H1, H2, H3, H4⟩
  imodintro
  unfold G; simp only [bigSep_sep']
  ihave H1 := (Entails.of_eq (over_cells (A := fun g => roundState ER (rd m) g 0))) $$ H1
  ihave H2 := (Entails.of_eq (over_cells (A := fun g => reached ER g 0))) $$ H2
  ihave H3 := (Entails.of_eq (over_cells (A := fun g => atPos ER g 0 ∅ 0))) $$ H3
  ihave H4 := (Entails.of_eq hT) $$ H4
  isplitl [H1]; · iexact H1
  isplitl [H3]; · iexact H3
  isplitl [H2]; · iexact H2
  iexact H4

/-- A device's thirteen cells: the barrier's, and two for each channel. -/
theorem cells_split {A : GSem nD τ sig → sProp 𝕄} (c : Dev nD) :
    (bigSep Finset.univ fun k : Fin 13 => A (kcell (c, k)))
      ⊢ iprop(A (barCell c) ∗ bigSep Finset.univ fun b : Fin 3 × Fin 2 => iprop(A (sendCell b.1 b.2 c) ∗ A (recvCell b.1 b.2 c))) := by
  have e : (bigSep Finset.univ fun k : Fin 13 => A (kcell (c, k)))
      = iprop(A (barCell c) ∗ A (sendCell 0 0 c) ∗ A (sendCell 0 1 c) ∗ A (sendCell 1 0 c) ∗ A (sendCell 1 1 c) ∗ A (sendCell 2 0 c) ∗ A (sendCell 2 1 c) ∗ A (recvCell 0 0 c) ∗ A (recvCell 0 1 c) ∗ A (recvCell 1 0 c) ∗ A (recvCell 1 1 c) ∗ A (recvCell 2 0 c) ∗ A (recvCell 2 1 c)) := by
    rw [bigSep_univ_eq_bigSepL [0, 1, 2, 3, 4, 5, 6, 7, 8, 9, 10, 11, 12] (by decide) (by decide)]; rfl
  rw [e, six]
  iintro ⟨HB, HS00, HS01, HS10, HS11, HS20, HS21, HR00, HR01, HR10, HR11, HR20, HR21⟩
  isplitl [HB]; · iexact HB
  isplitl [HS00 HR00]; · isplitl [HS00] <;> iassumption
  isplitl [HS01 HR01]; · isplitl [HS01] <;> iassumption
  isplitl [HS10 HR10]; · isplitl [HS10] <;> iassumption
  isplitl [HS11 HR11]; · isplitl [HS11] <;> iassumption
  isplitl [HS20 HR20]; · isplitl [HS20] <;> iassumption
  isplitl [HS21] <;> iassumption

/-! ## Opening the cells -/

theorem ownSems0_eq (c : Dev nD) : (Pipeline.ownSems0 (Ix := Unit) (Name := ℕ) (U := UU) (Lvl := ℕ) (Val := Elt F) (τ := τ) osem c : sProp 𝕄)
    = iprop(semVal (sendCell 0 0 c) 0 ∗ semVal (sendCell 0 1 c) 0 ∗ semVal (sendCell 1 0 c) 0 ∗ semVal (sendCell 1 1 c) 0 ∗ semVal (sendCell 2 0 c) 0 ∗ semVal (sendCell 2 1 c) 0 ∗ semVal (recvCell 0 0 c) 0 ∗ semVal (recvCell 0 1 c) 0 ∗ semVal (recvCell 1 0 c) 0 ∗ semVal (recvCell 1 1 c) 0 ∗ semVal (recvCell 2 0 c) 0 ∗ semVal (recvCell 2 1 c) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  have e : (bigSep Finset.univ fun k : Fin 13 => (semVal (kcell (c, k)) 0 : sProp 𝕄)) = iprop(semVal (barCell c) 0 ∗ semVal (sendCell 0 0 c) 0 ∗ semVal (sendCell 0 1 c) 0 ∗ semVal (sendCell 1 0 c) 0 ∗ semVal (sendCell 1 1 c) 0 ∗ semVal (sendCell 2 0 c) 0 ∗ semVal (sendCell 2 1 c) 0 ∗ semVal (recvCell 0 0 c) 0 ∗ semVal (recvCell 0 1 c) 0 ∗ semVal (recvCell 1 0 c) 0 ∗ semVal (recvCell 1 1 c) 0 ∗ semVal (recvCell 2 0 c) 0 ∗ semVal (recvCell 2 1 c) 0) := by
    rw [bigSep_univ_eq_bigSepL [0, 1, 2, 3, 4, 5, 6, 7, 8, 9, 10, 11, 12] (by decide) (by decide)]; rfl
  rw [e, ownSems0_eq, unscopedSems0_eq]
  iintro ⟨H, HB⟩
  isplitl [HB] <;> iassumption

theorem device_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k : Fin 13 => atPos ER (kcell (c, k)) 0 ∅ 0)
          ∗ (bigSep Finset.univ fun k : Fin 13 => reached ER (kcell (c, k)) 0)
          ∗ bigSep Finset.univ fun k : Fin 13 => bigSep Finset.univ fun d : Fin 3 => dutyTok ER (kcell (c, k)) 0 d) := by
  unfold G
  iintro ⟨Ho, Hu, Hst, Hrest⟩
  ihave Hv := (sems_all (F := F) c) $$ [Ho Hu]
  · isplitl [Ho] <;> iassumption
  imod (show iprop((bigSep Finset.univ fun k : Fin 13 => semVal (kcell (c, k)) 0) ∗ bigSep Finset.univ fun k : Fin 13 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hi
  · isplitl [Hv] <;> iassumption
  imodintro
  isplitl [Hi]; · iexact Hi
  iexact Hrest

/-! ## Dealing the permissions -/

/-- The permissions a device's own cells come with, -/
def own3 (c : Dev nD) : sProp 𝕄 :=
  iprop((dutyTok ER (barCell c) 0 0 ∗ dutyTok ER (barCell c) 0 1 ∗ dutyTok ER (barCell c) 0 2)
    ∗ (bigSep Finset.univ fun b : Fin 3 × Fin 2 => dutyTok ER (sendCell b.1 b.2 c) 0 0) ∗ bigSep Finset.univ fun b : Fin 3 × Fin 2 => dutyTok ER (recvCell b.1 b.2 c) 0 0)
/-- and those it pays with. -/
def pay3 (c : Dev nD) : sProp 𝕄 :=
  iprop((dutyTok ER (barCell (peer 0 c)) 0 0 ∗ dutyTok ER (barCell (peer 1 c)) 0 1 ∗ dutyTok ER (barCell (peer 2 c)) 0 2)
    ∗ (bigSep Finset.univ fun b : Fin 3 × Fin 2 => dutyTok ER (sendCell b.1 b.2 c) 0 0) ∗ bigSep Finset.univ fun b : Fin 3 × Fin 2 => dutyTok ER (recvCell b.1 b.2 (peer b.1 c)) 0 0)

theorem first_tok (g : GSem nD τ sig) : (bigSep Finset.univ fun d : Fin 3 => (dutyTok ER g 0 d : sProp 𝕄)) ⊢ dutyTok ER g 0 0 :=
  bigSep_elim (Finset.mem_univ 0)

theorem toks_own (c : Dev nD) :
    (bigSep Finset.univ fun k : Fin 13 => bigSep Finset.univ fun d : Fin 3 => (dutyTok ER (kcell (c, k)) 0 d : sProp 𝕄)) ⊢ own3 c := by
  refine (cells_split (A := fun g => bigSep Finset.univ fun d : Fin 3 => (dutyTok ER g 0 d : sProp 𝕄)) c).trans ?_
  unfold own3
  rw [← bigSep_sep', bigSep_univ_eq_bigSepL [0, 1, 2] (by decide) (by decide) (fun d : Fin 3 => (dutyTok ER (barCell c) 0 d : sProp 𝕄))]
  exact BI.sep_mono (Entails.refl _) (bigSep_mono fun b _ => BI.sep_mono (first_tok _) (first_tok _))

theorem toks_all : (bigSep Finset.univ fun c : Dev nD => bigSep Finset.univ fun k : Fin 13 => bigSep Finset.univ fun d : Fin 3 => (dutyTok ER (kcell (c, k)) 0 d : sProp 𝕄))
    ⊢ bigSep Finset.univ fun c : Dev nD => own3 c := bigSep_mono fun c _ => toks_own c

theorem other_order (A : Dev nD → Fin 3 × Fin 2 → sProp 𝕄) :
    (bigSep Finset.univ fun c => bigSep Finset.univ fun b => A c b) = bigSep Finset.univ fun b => bigSep Finset.univ fun c => A c b := by
  rw [← bigSep_univ_prod (fun x : Dev nD × (Fin 3 × Fin 2) => A x.1 x.2), ← bigSep_univ_prod (fun x : (Fin 3 × Fin 2) × Dev nD => A x.2 x.1)]
  exact bigSep_univ_equiv (Equiv.prodComm _ _) fun x : Dev nD × (Fin 3 × Fin 2) => A x.1 x.2

/-- Each permission goes to the partner who pays with it. -/
theorem deal : (bigSep Finset.univ fun c : Dev nD => (own3 c : sProp 𝕄)) ⊢ bigSep Finset.univ fun c : Dev nD => pay3 c := by
  have hb (s : Fin 3) : (bigSep Finset.univ fun c : Dev nD => (dutyTok ER (barCell c) 0 s : sProp 𝕄)) = bigSep Finset.univ fun c : Dev nD => dutyTok ER (barCell (peer s c)) 0 s :=
    bigSep_univ_equiv (swap s) fun c : Dev nD => (dutyTok ER (barCell c) 0 s : sProp 𝕄)
  have hr (b : Fin 3 × Fin 2) : (bigSep Finset.univ fun c : Dev nD => (dutyTok ER (recvCell b.1 b.2 c) 0 0 : sProp 𝕄))
      = bigSep Finset.univ fun c : Dev nD => dutyTok ER (recvCell b.1 b.2 (peer b.1 c)) 0 0 :=
    bigSep_univ_equiv (swap b.1) fun c : Dev nD => (dutyTok ER (recvCell b.1 b.2 c) 0 0 : sProp 𝕄)
  unfold own3 pay3
  rw [bigSep_sep', bigSep_sep', bigSep_sep', bigSep_sep', bigSep_sep', bigSep_sep', bigSep_sep', bigSep_sep', hb 0, hb 1, hb 2,
    other_order (fun (c : Dev nD) (b : Fin 3 × Fin 2) => (dutyTok ER (recvCell b.1 b.2 c) 0 0 : sProp 𝕄)),
    bigSep_congr fun b _ => hr b,
    other_order (fun (c : Dev nD) (b : Fin 3 × Fin 2) => (dutyTok ER (recvCell b.1 b.2 (peer b.1 c)) 0 0 : sProp 𝕄))]

theorem linear_intro (c : Dev nD) : iprop((bigSep Finset.univ fun k : Fin 13 => atPos ER (kcell (c, k)) 0 ∅ 0) ∗ pay3 c) ⊢ (linear c : sProp 𝕄) := by
  refine (sep_mono_left (cells_split (A := fun g => atPos ER g 0 ∅ 0) c)).trans ?_
  unfold pay3 linear chanToks chanPos
  simp only [bigSep_sep']
  iintro ⟨⟨H1, H2, H3⟩, H4, H5, H6⟩
  isplitl [H1]; · iexact H1
  isplitl [H4]; · iexact H4
  isplitl [H5 H6]
  · isplitl [H5] <;> iassumption
  isplitl [H2] <;> iassumption

theorem with_each {I : Type} [DecidableEq I] {S : Finset I} {P : sProp 𝕄} [BI.Persistent P] {A B : I → sProp 𝕄}
    (h : ∀ i ∈ S, iprop(P ∗ A i) ⊢ B i) : iprop(P ∗ bigSep S A) ⊢ bigSep S B :=
  (sep_mono_left (BI.bigSep_of_persistent S P)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k : Fin 13 => atPos ER (kcell (c, k)) 0 ∅ 0)
          ∗ (bigSep Finset.univ fun k : Fin 13 => reached ER (kcell (c, k)) 0)
          ∗ bigSep Finset.univ fun k : Fin 13 => bigSep Finset.univ fun d : Fin 3 => dutyTok ER (kcell (c, k)) 0 d) : sProp 𝕄)
      ⊢ bigSep Finset.univ (G' m) := by
  rw [bigSep_sep', bigSep_sep', bigSep_sep', ← bigSep_univ_prod (fun ck : Dev nD × Fin 13 => iprop(∃ κ : ℕ, cellInv ER (rd m) κ (kcell ck))),
    ← bigSep_univ_prod (fun ck : Dev nD × Fin 13 => (reached ER (kcell ck) 0 : sProp 𝕄))]
  iintro ⟨HI, Hat, #HR, Htok⟩
  ihave HK := (BI.bigSep_exists_pi Finset.univ (fun (ck : Dev nD × Fin 13) (κ : ℕ) => (cellInv ER (rd m) κ (kcell ck) : sProp 𝕄))) $$ HI
  icases HK with ⟨%K, #HI⟩
  ihave Htok := (toks_all (F := F)) $$ Htok
  ihave Htok := (deal (F := F)) $$ Htok
  iapply (with_each (P := records m K) (A := fun c : Dev nD => iprop((bigSep Finset.univ fun k : Fin 13 => atPos ER (kcell (c, k)) 0 ∅ 0) ∗ pay3 c)) (B := G' m)
    fun c _ => (sep_mono_right (linear_intro c)).trans (by unfold G' ghost; iintro H; iexists K; iexact H))
  isplitr
  · unfold records; isplitl; · iexact HI
    iexact HR
  rw [bigSep_sep']
  isplitl [Hat] <;> iassumption

/-- All devices' semaphores become all devices' cells, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_open m c).trans (bigSep_fupd _ _)).trans (BI.fupd_mono (regroup m))

/-! ## What is owed to a device at launch -/

abbrev O₀ (c : Dev nD) : CellTallies nD τ sig Unit := oweL (dues c)

theorem due_bar (s : Fin 3) (c : Dev nD) : (Pipeline.launchCred (fun d => tallyAt (barCell (peer s d)) () 1) c : sProp 𝕄) ⊢ cred (tallyAt (barCell c) () 1) :=
  Pipeline.launchCred_tallyAt (.reg barS) (peer s) (peer s) (peer_peer s) (peer_peer s) () 1 c
theorem due_recv (s : Fin 3) (h : Fin 2) (c : Dev nD) : (Pipeline.launchCred (fun d => tallyAt (recvCell s h (peer s d)) () N) c : sProp 𝕄) ⊢ cred (tallyAt (recvCell s h c) () N) :=
  Pipeline.launchCred_tallyAt (.dma (recvS s h)) (peer s) (peer s) (peer_peer s) (peer_peer s) () N c

theorem due_step (O : Dev nD → CellTallies nD τ sig Unit) (l : Dev nD → List (GSem nD τ sig × ℕ)) (g : Dev nD → GSem nD τ sig) (n : ℕ) (c : Dev nD)
    (e : ∀ d, O d = oweL (l d) + tallyAt (g d) () n) :
    (Pipeline.launchCred O c : sProp 𝕄) = iprop(Pipeline.launchCred (fun d => oweL (l d)) c ∗ Pipeline.launchCred (fun d => tallyAt (g d) () n) c) := by
  rw [show O = fun d => oweL (l d) + tallyAt (g d) () n from funext e]
  exact Pipeline.launchCred_add (fun d => oweL (l d)) (fun d => tallyAt (g d) () n) c

theorem due_all (c : Dev nD) : (Pipeline.launchCred O₀ c : sProp 𝕄) ⊢ dueHere c := by
  unfold dueHere
  rw [six]
  rw [due_step O₀ (fun d => (dues d).drop 1) (fun d => barCell (peer 0 d)) 1 c fun _ => rfl]
  rw [due_step (fun d => oweL ((dues d).drop 1)) (fun d => (dues d).drop 2) (fun d => barCell (peer 1 d)) 1 c fun _ => rfl]
  rw [due_step (fun d => oweL ((dues d).drop 2)) (fun d => (dues d).drop 3) (fun d => barCell (peer 2 d)) 1 c fun _ => rfl]
  rw [due_step (fun d => oweL ((dues d).drop 3)) (fun d => (dues d).drop 4) (fun d => recvCell 0 0 (peer 0 d)) N c fun _ => rfl]
  rw [due_step (fun d => oweL ((dues d).drop 4)) (fun d => (dues d).drop 5) (fun d => recvCell 0 1 (peer 0 d)) N c fun _ => rfl]
  rw [due_step (fun d => oweL ((dues d).drop 5)) (fun d => (dues d).drop 6) (fun d => recvCell 1 0 (peer 1 d)) N c fun _ => rfl]
  rw [due_step (fun d => oweL ((dues d).drop 6)) (fun d => (dues d).drop 7) (fun d => recvCell 1 1 (peer 1 d)) N c fun _ => rfl]
  rw [due_step (fun d => oweL ((dues d).drop 7)) (fun d => (dues d).drop 8) (fun d => recvCell 2 0 (peer 2 d)) N c fun _ => rfl]
  rw [due_step (fun d => oweL ((dues d).drop 8)) (fun d => (dues d).drop 9) (fun d => recvCell 2 1 (peer 2 d)) N c fun _ => rfl]
  iintro ⟨⟨⟨⟨⟨⟨⟨⟨⟨-, HR21⟩, HR20⟩, HR11⟩, HR10⟩, HR01⟩, HR00⟩, HB2⟩, HB1⟩, HB0⟩
  ihave HB0 := (due_bar (F := F) 0 c) $$ HB0
  ihave HB1 := (due_bar (F := F) 1 c) $$ HB1
  ihave HB2 := (due_bar (F := F) 2 c) $$ HB2
  ihave HR00 := (due_recv (F := F) 0 0 c) $$ HR00
  ihave HR01 := (due_recv (F := F) 0 1 c) $$ HR01
  ihave HR10 := (due_recv (F := F) 1 0 c) $$ HR10
  ihave HR11 := (due_recv (F := F) 1 1 c) $$ HR11
  ihave HR20 := (due_recv (F := F) 2 0 c) $$ HR20
  ihave HR21 := (due_recv (F := F) 2 1 c) $$ HR21
  isplitl [HB0 HB1 HB2]
  · iapply (show iprop(cred (tallyAt (barCell c) () 1) ∗ cred (tallyAt (barCell c) () 1) ∗ cred (tallyAt (barCell c) () 1)) ⊢ (cred (tallyAt (barCell c) () 3) : sProp 𝕄) from by
      have e : (tallyAt (barCell c) () 3 : CellTallies nD τ sig Unit) = tallyAt (barCell c) () 1 + (tallyAt (barCell c) () 1 + tallyAt (barCell c) () 1) := by
        rw [tallyAt_add, tallyAt_add]
      rw [e]
      exact (sep_mono_right (cred_add _ _).2).trans (cred_add _ _).2)
    isplitl [HB0]; · iexact HB0
    isplitl [HB1] <;> iassumption
  isplitl [HR00]; · iexact HR00
  isplitl [HR01]; · iexact HR01
  isplitl [HR10]; · iexact HR10
  isplitl [HR11]; · iexact HR11
  isplitl [HR20]; · iexact HR20
  iexact HR21

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hd, -, HG⟩
  ihave Hd := (due_all (F := F) c) $$ Hd
  imodintro
  unfold start G'
  isplitl
  · isplitl [HG]; · iexact HG
    isplitl [Hd] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ buffers
  iintro ⟨Hs, -, Hb⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ buffers zeros
  rw [six]
  iintro ⟨Hb, HB, ⟨HS00, HR00⟩, ⟨HS01, HR01⟩, ⟨HS10, HR10⟩, ⟨HS11, HR11⟩, ⟨HS20, HR20⟩, ⟨HS21, HR21⟩⟩
  isplitl [HB]; · iexact HB
  isplitr [Hb]
  · isplitl [HS00]; · iexact HS00
    isplitl [HS01]; · iexact HS01
    isplitl [HS10]; · iexact HS10
    isplitl [HS11]; · iexact HS11
    isplitl [HS20]; · iexact HS20
    isplitl [HS21]; · iexact HS21
    isplitl [HR00]; · iexact HR00
    isplitl [HR01]; · iexact HR01
    isplitl [HR10]; · iexact HR10
    isplitl [HR11]; · iexact HR11
    isplitl [HR20]; · iexact HR20
    iexact HR21
  iexact Hb

theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact mayWait_of c _ (dues c) (by fin_cases w <;> fin_cases s <;> rfl)
    · exact mayWait_of c _ [] rfl

/-! ## The run -/

/-- A window's array after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every run of the program on the eight devices ends, with every device's
    arrays at the stated contents and every counter back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds at the end what it held before. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Exchange

end
-- ==== Proof.Frames.lean ====
/-
# The frames

The run, read at the arguments: every argument array is kept and every counter is back at zero.
-/
module

public import proofs.«01_k».proof.Defs
public import proofs.«01_k».proof.Proof.Gen.Kernel
public import proofs.«01_k».proof.Proof.Start
public import proofs.«01_k».proof.Proof.Gen.ReferenceIdeal.Run

@[expose] public section

namespace Cert.Exchange

open Idealize.ShloMosaic Idealize.ShloMosaic.TcCoe Idealize.SL.Sem
open Cert.KernelIdeal Cert.KernelIdeal.Gen

theorem kept {F : FTy → Type} [FloatOps F] (m : (ℓ : Loc nD τ sig) → Buf (Elt F) ℓ) (ρ : Dev nD → PrngReg)
    {r : PUnit × MemSt nD τ sig (Elt F)} (h : Ends m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

theorem frame {F : FTy → Type} [FloatOps F] (m : (ℓ : Loc nD τ sig) → Buf (Elt F) ℓ) (ρ : Dev nD → PrngReg) :
    θ_run (defs (F := F)) (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => kept m ρ h.1 c, h.2⟩) (run_main m ρ)

/-- The compiled program and its idealization have the same body, -/
theorem body_same : @Cert.Kernel.defs₀ Bits _ _ = @Cert.KernelIdeal.defs₀ Bits _ _ := by
  unfold Cert.Kernel.defs₀ Cert.KernelIdeal.defs₀
  refine congrArg Defs.onTc (funext fun l => ?_)
  match l with
  | 0 =>
    funext ts
    obtain ⟨t, s⟩ := ts
    rfl

theorem defs_same : @Cert.Kernel.defs Bits _ _ = @Cert.KernelIdeal.defs Bits _ _ := by
  unfold Cert.Kernel.defs Cert.KernelIdeal.defs
  rw [body_same]; rfl

/-- so the run at bit patterns is the same run at other float values. -/
theorem frame_kernel : Cert.quiescent_Kernel := fun m ρ _ => by
  rw [defs_same]
  exact frame (F := Bits) m ρ

theorem frame_kernelIdeal : Cert.quiescent_KernelIdeal := fun m ρ _ => frame (F := Ideal) m ρ

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Exchange
-- ==== Proof.Reading.lean ====
/-
# Blocks and arrays

Every window is a whole array: its one block reads the array as it is, and the result array ends as the body left its
block.
-/
module

public import proofs.«01_k».proof.Proof.Start
public import Idealize.ShloMosaic.Lib.Pipeline.ValueKit

@[expose] public section

noncomputable section

namespace Cert.Exchange

open Cert.KernelIdeal Cert.KernelIdeal.Gen
open Idealize.ShloMosaic Idealize.ShloMosaic.TcCoe

variable {F : FTy → Type} [FloatOps F] (m : (ℓ : Loc nD τ sig) → Buf (Elt F) ℓ)

theorem at_0 : win0_0.index (0 : Fin 1) = ![0, 0] := by decide +kernel
theorem inX_eq (c : Dev nD) : inX m c = m ((c : Thread nD τ).loc main_arg0) := by
  funext y; unfold inX; blk_simp; refine congrArg _ ?_; blk_ext [at_0]
theorem at_1 : win0_1.index (0 : Fin 1) = ![0, 0] := by decide +kernel
theorem inR_eq (c : Dev nD) : inR m c = m ((c : Thread nD τ).loc main_arg1) := by
  funext y; unfold inR; blk_simp; refine congrArg _ ?_; blk_ext [at_1]
theorem at_2 : win0_2.index (0 : Fin 1) = ![0, 0] := by decide +kernel
theorem inI_eq (c : Dev nD) : inI m c = m ((c : Thread nD τ).loc main_arg2) := by
  funext y; unfold inI; blk_simp; refine congrArg _ ?_; blk_ext [at_2]
theorem at_3 : win0_3.index (0 : Fin 1) = ![0, 0, 0] := by decide +kernel
theorem inE_eq (c : Dev nD) : inE m c = m ((c : Thread nD τ).loc main_arg3) := by
  funext y; unfold inE; blk_simp; refine congrArg _ ?_; blk_ext [at_3]
theorem at_4 : win0_4.index (0 : Fin 1) = ![0, 0] := by decide +kernel
theorem inS_eq (c : Dev nD) : inS m c = m ((c : Thread nD τ).loc main_arg4) := by
  funext y; unfold inS; blk_simp; refine congrArg _ ?_; blk_ext [at_4]

theorem final_out (ρ : Dev nD → PrngReg) (c : Dev nD) : finalA m ρ c 5 = outAt m c := by
  refine (dats m ρ 0 c).arrAt_eq_of_after_last 5 t0_0 (by decide +kernel) _ fun j => ?_
  blk_simp
  rfl

end Cert.Exchange

end
-- ==== Proof.Mixture.lean ====
/-
# The result in plain sums

A router row scores the sixteen experts; the scores become weights by the usual exponential normalisation; every row
is sent to the one expert its index names, and the weighted product is added to the shared expert's. An index that
names no expert adds nothing.
-/
module

public import Idealize.ShloMosaic.Lib.Pointwise

@[expose] public section

noncomputable section

namespace Cert.Exchange

open Idealize.ShloMosaic

abbrev Tokens : Type := (⟨2, ![256, 128]⟩ : Shape).Idx → EReal
abbrev Router : Type := (⟨2, ![128, 16]⟩ : Shape).Idx → EReal
abbrev Picks : Type := (⟨2, ![256, 1]⟩ : Shape).Idx → BitVec 32
abbrev Experts : Type := (⟨3, ![16, 128, 256]⟩ : Shape).Idx → EReal
abbrev Shared : Type := (⟨2, ![128, 256]⟩ : Shape).Idx → EReal

/-- The score of expert `e` for token `t`. -/
def score (x : Tokens) (r : Router) (t : Fin 256) (e : Fin 16) : EReal := ∑ k : Fin 128, x (ix2 t k) * r (ix2 k e)
/-- The largest score of a token. -/
def top (x : Tokens) (r : Router) (t : Fin 256) : EReal :=
  Finset.fold max (Ideal.ofBits FTy.f32 0xFF800000#32) (fun e => score x r t e) Finset.univ
/-- The weight of expert `e` for token `t`. -/
def weight (x : Tokens) (r : Router) (t : Fin 256) (e : Fin 16) : EReal :=
  Ideal.div (Ideal.exp (score x r t e - top x r t)) (∑ j : Fin 16, Ideal.exp (score x r t j - top x r t))
/-- Column `j` of expert `e`'s product with token `t`. -/
def product (x : Tokens) (w : Experts) (t : Fin 256) (e : Fin 16) (j : Fin 256) : EReal :=
  ∑ k : Fin 128, x (ix2 t k) * w (ix3 e k j)
/-- What expert `e` adds to a token whose index is the word `p`. -/
def adds (x : Tokens) (r : Router) (p : BitVec 32) (w : Experts) (t : Fin 256) (j : Fin 256) (e : Fin 16) : EReal :=
  if p = BitVec.ofNat 32 e.val then weight x r t e * product x w t e j else 0
/-- The result. -/
def mixture (x : Tokens) (r : Router) (p : Picks) (w : Experts) (s : Shared) (t : Fin 256) (j : Fin 256) : EReal :=
  (∑ k : Fin 128, x (ix2 t k) * s (ix2 k j)) + ∑ e : Fin 16, adds x r (p (ix2 t 0)) w t j e

/-- Two small numbers that give the same word are the same. -/
theorem word_inj (a b : Fin 16) (h : BitVec.ofNat 32 a.val = BitVec.ofNat 32 b.val) : a = b := by
  have h' := congrArg BitVec.toNat h
  simp only [BitVec.toNat_ofNat] at h'
  exact Fin.ext (by omega)

/-- A row summed against the mark of one column is the row at that column. -/
theorem sum_marked (p : Fin 16 → EReal) (e : Fin 16) :
    (∑ j : Fin 16, p j * FloatOps.sitofp (F := Ideal) FTy.f32
      (BitVec.setWidth 32 (IntOp.cmpi CmpIPredicate.eq (BitVec.ofNat 32 j.val) (BitVec.ofNat 32 e.val)))) = p e := by
  rw [Finset.sum_eq_single e]
  · have h : IntOp.cmpi CmpIPredicate.eq (BitVec.ofNat 32 e.val) (BitVec.ofNat 32 e.val) = 1#1 := by simp [IntOp.cmpi]
    rw [h]
    show p e * (((BitVec.setWidth 32 1#1).toInt : ℝ) : EReal) = p e
    simp
  · intro j _ hj
    have h : IntOp.cmpi CmpIPredicate.eq (BitVec.ofNat 32 j.val) (BitVec.ofNat 32 e.val) = 0#1 := by
      simp only [IntOp.cmpi]
      rw [beq_eq_false_iff_ne.mpr fun h => hj (word_inj _ _ h)]
      rfl
    rw [h]
    show p j * (((BitVec.setWidth 32 0#1).toInt : ℝ) : EReal) = 0
    simp
  · intro h; exact absurd (Finset.mem_univ e) h

/-- Of the experts' additions only the named one's is left. -/
theorem sum_adds_in (x : Tokens) (r : Router) (p : BitVec 32) (w : Experts) (t j : Fin 256) (h : p.toNat < 16) :
    ∑ e : Fin 16, adds x r p w t j e = weight x r t ⟨p.toNat, h⟩ * product x w t ⟨p.toNat, h⟩ j := by
  have hp : p = BitVec.ofNat 32 (⟨p.toNat, h⟩ : Fin 16).val := by simp
  rw [Finset.sum_eq_single (⟨p.toNat, h⟩ : Fin 16)]
  · exact if_pos hp
  · intro e _ he
    exact if_neg fun h' => he (word_inj _ _ (h'.symm.trans hp))
  · intro h'; exact absurd (Finset.mem_univ _) h'

/-- An index that names no expert adds nothing. -/
theorem sum_adds_out (x : Tokens) (r : Router) (p : BitVec 32) (w : Experts) (t j : Fin 256) (h : ¬ p.toNat < 16) :
    ∑ e : Fin 16, adds x r p w t j e = 0 := by
  refine Finset.sum_eq_zero fun e _ => if_neg fun h' => h ?_
  rw [h', BitVec.toNat_ofNat]
  omega

/-- Eight pairs are sixteen. -/
theorem sum_pairs (f : Fin 16 → EReal) :
    ∑ d : Fin 8, (f ⟨2 * d.val, by omega⟩ + f ⟨2 * d.val + 1, by omega⟩) = ∑ e : Fin 16, f e := by
  simp only [Fin.sum_univ_eight, Fin.sum_univ_succ, Fin.sum_univ_zero]
  simp only [Fin.isValue, Fin.val_zero, add_zero, add_assoc]
  rfl

end Cert.Exchange

end
-- ==== Proof.Sums.lean ====
/-
# What the kernel computes

Over exact numbers the three exchanges leave on every device the sum of all eight parts, and a part is what the
device's two experts add; with the shared expert's product this is the plain mixture.
-/
module

public import proofs.«01_k».proof.Proof.Reading
public import proofs.«01_k».proof.Proof.Mixture

@[expose] public section

noncomputable section

namespace Cert.Exchange

open Cert.KernelIdeal Cert.KernelIdeal.Gen
open Idealize.ShloMosaic Idealize.ShloMosaic.TcCoe

theorem first_lt (d : Dev nD) : 2 * d.val < 16 := by revert d; decide
theorem second_lt (d : Dev nD) : 2 * d.val + 1 < 16 := by revert d; decide

/-- The number of a device's first expert. -/
theorem even_word (d : Dev nD) : Scalar.addi (Scalar.muli 2#32 (devWord d)) 0#32 = BitVec.ofNat 32 (2 * d.val) := by
  fin_cases d <;> rfl
/-- The number of its second. -/
theorem odd_word (d : Dev nD) : Scalar.addi (Scalar.muli 2#32 (devWord d)) 1#32 = BitVec.ofNat 32 (2 * d.val + 1) := by
  fin_cases d <;> rfl

/-- A row's gate, at expert `e`, times a product is what expert `e` adds. -/
theorem gated (x : Tokens) (r : Router) (p : BitVec 32) (w : Experts) (t j : Fin 256) (e : Fin 16) (y : EReal) (hy : y = product x w t e j) :
    Scalar.select (IntOp.cmpi CmpIPredicate.eq p (BitVec.ofNat 32 e.val))
      ((∑ k : Fin 16, weight x r t k * FloatOps.sitofp (F := Ideal) FTy.f32
        (BitVec.setWidth 32 (IntOp.cmpi CmpIPredicate.eq (BitVec.ofNat 32 k.val) (BitVec.ofNat 32 e.val)))) * y) 0
      = adds x r p w t j e := by
  rw [sum_marked, hy]
  unfold adds
  by_cases h : p = BitVec.ofNat 32 e.val
  · rw [if_pos h, h]
    have h1 : IntOp.cmpi CmpIPredicate.eq (BitVec.ofNat 32 e.val) (BitVec.ofNat 32 e.val) = 1#1 := by simp [IntOp.cmpi]
    rw [h1]; rfl
  · rw [if_neg h]
    have h0 : IntOp.cmpi CmpIPredicate.eq p (BitVec.ofNat 32 e.val) = 0#1 := by
      simp only [IntOp.cmpi]
      rw [beq_eq_false_iff_ne.mpr h]
      rfl
    rw [h0]; rfl

set_option maxRecDepth 16384 in
theorem pay_weight (x : Tokens) (r : Router) (t : Fin 256) (e : Fin 16) : k0_pay3 (F := Ideal) x r (ix2 t e) = weight x r t e := by
  pointwise [k0_pay3, k0_pay2]
  rfl

set_option maxRecDepth 16384 in
theorem pay_lo (v : BitVec 32) (x : FVec Ideal S256x128 .bf16) (q : FVec Ideal S256x16 .f32) (i : IVec S256x1 32) (w : Vec Ideal S2x128x256 .bf16)
    (a : Fin 128) (b : Fin 256) :
    k0_pay6 v x q i cols w (ix2 a b)
      = Scalar.select (IntOp.cmpi CmpIPredicate.eq (i (ix2 ⟨a.val, by omega⟩ 0)) (Scalar.addi (Scalar.muli 2#32 v) 0#32))
          ((∑ k : Fin 16, q (ix2 ⟨a.val, by omega⟩ k) * FloatOps.sitofp (F := Ideal) FTy.f32
            (BitVec.setWidth 32 (IntOp.cmpi CmpIPredicate.eq (BitVec.ofNat 32 k.val) (Scalar.addi (Scalar.muli 2#32 v) 0#32)))) *
            ∑ k : Fin 128, x (ix2 ⟨a.val, by omega⟩ k) * w (ix3 0 k b)) 0
        + Scalar.select (IntOp.cmpi CmpIPredicate.eq (i (ix2 ⟨a.val, by omega⟩ 0)) (Scalar.addi (Scalar.muli 2#32 v) 1#32))
          ((∑ k : Fin 16, q (ix2 ⟨a.val, by omega⟩ k) * FloatOps.sitofp (F := Ideal) FTy.f32
            (BitVec.setWidth 32 (IntOp.cmpi CmpIPredicate.eq (BitVec.ofNat 32 k.val) (Scalar.addi (Scalar.muli 2#32 v) 1#32)))) *
            ∑ k : Fin 128, x (ix2 ⟨a.val, by omega⟩ k) * w (ix3 1 k b)) 0 := by
  pointwise [k0_pay6, k0_pay5, cols]

set_option maxRecDepth 16384 in
theorem pay_hi (v : BitVec 32) (x : FVec Ideal S256x128 .bf16) (q : FVec Ideal S256x16 .f32) (i : IVec S256x1 32) (w : Vec Ideal S2x128x256 .bf16)
    (a : Fin 128) (b : Fin 256) :
    k0_pay13 v q i cols (k0_pay8 x (k0_pay5 w)) k0_pay9 (k0_pay10 v q cols) (k0_pay11 i) (k0_pay12 v) (ix2 a b)
      = Scalar.select (IntOp.cmpi CmpIPredicate.eq (i (ix2 ⟨128 + a.val, by omega⟩ 0)) (Scalar.addi (Scalar.muli 2#32 v) 0#32))
          ((∑ k : Fin 16, q (ix2 ⟨128 + a.val, by omega⟩ k) * FloatOps.sitofp (F := Ideal) FTy.f32
            (BitVec.setWidth 32 (IntOp.cmpi CmpIPredicate.eq (BitVec.ofNat 32 k.val) (Scalar.addi (Scalar.muli 2#32 v) 0#32)))) *
            ∑ k : Fin 128, x (ix2 ⟨128 + a.val, by omega⟩ k) * w (ix3 0 k b)) 0
        + Scalar.select (IntOp.cmpi CmpIPredicate.eq (i (ix2 ⟨128 + a.val, by omega⟩ 0)) (Scalar.addi (Scalar.muli 2#32 v) 1#32))
          ((∑ k : Fin 16, q (ix2 ⟨128 + a.val, by omega⟩ k) * FloatOps.sitofp (F := Ideal) FTy.f32
            (BitVec.setWidth 32 (IntOp.cmpi CmpIPredicate.eq (BitVec.ofNat 32 k.val) (Scalar.addi (Scalar.muli 2#32 v) 1#32)))) *
            ∑ k : Fin 128, x (ix2 ⟨128 + a.val, by omega⟩ k) * w (ix3 1 k b)) 0 := by
  pointwise [k0_pay13, k0_pay5, cols, k0_pay8, k0_pay9, k0_pay10, k0_pay11, k0_pay12]

set_option maxRecDepth 16384 in
theorem pay_shared (x : Tokens) (s : Shared) (a b : Fin 256) :
    k0_pay15 (F := Ideal) (k0_pay2 x) s (ix2 a b) = ∑ k : Fin 128, x (ix2 a k) * s (ix2 k b) := by
  pointwise [k0_pay15, k0_pay2]

section Sums

/-- The row of the whole that row `a` of half `h` is. -/
def row (h : Fin 2) (a : Fin 128) : Fin 256 := ⟨128 * h.val + a.val, by omega⟩

variable (m : (ℓ : Loc nD τ sig) → Buf (Elt Ideal) ℓ) (x : Tokens) (r : Router) (p : Picks) (w : Experts) (s : Shared)

/-- The devices hold these arrays: the experts two each, the rest whole. -/
structure Holds : Prop where
  tokens : ∀ c : Dev nD, m ((c : Thread nD τ).loc main_arg0) = x
  router : ∀ c : Dev nD, m ((c : Thread nD τ).loc main_arg1) = r
  picks : ∀ c : Dev nD, m ((c : Thread nD τ).loc main_arg2) = p
  experts : ∀ c : Dev nD, m ((c : Thread nD τ).loc main_arg3) = Layout.block ⟨3, ![2, 128, 256]⟩ ⟨3, ![16, 128, 256]⟩ 0 8 c w
  shared : ∀ c : Dev nD, m ((c : Thread nD τ).loc main_arg4) = s

variable {m x r p w s} (H : Holds m x r p w s)
include H

theorem even_expert (d : Dev nD) (k : Fin 128) (b : Fin 256) : inE m d (ix3 0 k b) = w (ix3 ⟨2 * d.val, first_lt d⟩ k b) := by
  rw [inE_eq, H.experts d]
  refine congrArg w (funext fun a => Fin.ext ?_)
  match a with
  | ⟨0, _⟩ => show d.val * 2 + 0 = 2 * d.val; omega
  | ⟨1, _⟩ => rfl
  | ⟨2, _⟩ => rfl
theorem odd_expert (d : Dev nD) (k : Fin 128) (b : Fin 256) : inE m d (ix3 1 k b) = w (ix3 ⟨2 * d.val + 1, second_lt d⟩ k b) := by
  rw [inE_eq, H.experts d]
  refine congrArg w (funext fun a => Fin.ext ?_)
  match a with
  | ⟨0, _⟩ => show d.val * 2 + 1 = 2 * d.val + 1; omega
  | ⟨1, _⟩ => rfl
  | ⟨2, _⟩ => rfl

/-- A device's part, at a row and a column: what its two experts add. -/
theorem part_apply (h : Fin 2) (d : Dev nD) (a : Fin 128) (b : Fin 256) :
    part m h d (ix2 a b) = adds x r (p (ix2 (row h a) 0)) w (row h a) b ⟨2 * d.val, first_lt d⟩
      + adds x r (p (ix2 (row h a) 0)) w (row h a) b ⟨2 * d.val + 1, second_lt d⟩ := by
  have hx : inX m d = x := (inX_eq m d).trans (H.tokens d)
  have hr : inR m d = r := (inR_eq m d).trans (H.router d)
  have hi : inI m d = p := (inI_eq m d).trans (H.picks d)
  have hp2 : k0_pay2 (F := Ideal) x = x := shapeCast_self _ _
  have hp4 : k0_pay4 (F := Ideal) p = p := shapeCast_self _ _
  match h with
  | 0 =>
    have hrow : row 0 a = ⟨a.val, by omega⟩ := Fin.ext (by show 128 * 0 + a.val = a.val; omega)
    rw [hrow]
    show k0_pay6 _ _ _ _ _ _ _ = _
    rw [hx, hr, hi, pay_lo, even_word, odd_word, hp2, hp4]
    simp only [pay_weight]
    congr 1
    · exact gated x r _ w _ b ⟨2 * d.val, first_lt d⟩ _ (Finset.sum_congr rfl fun k _ => by rw [even_expert H d])
    · exact gated x r _ w _ b ⟨2 * d.val + 1, second_lt d⟩ _ (Finset.sum_congr rfl fun k _ => by rw [odd_expert H d])
  | 1 =>
    have hrow : row 1 a = ⟨128 + a.val, by omega⟩ := Fin.ext (by show 128 * 1 + a.val = 128 + a.val; omega)
    rw [hrow]
    show k0_pay13 _ _ _ _ _ _ _ _ _ _ = _
    rw [hx, hr, hi, pay_hi, even_word, odd_word, hp2, hp4]
    simp only [pay_weight]
    congr 1
    · exact gated x r _ w _ b ⟨2 * d.val, first_lt d⟩ _ (Finset.sum_congr rfl fun k _ => by rw [even_expert H d])
    · exact gated x r _ w _ b ⟨2 * d.val + 1, second_lt d⟩ _ (Finset.sum_congr rfl fun k _ => by rw [odd_expert H d])

omit H in
/-- The eight terms of a device's last running sum come from eight different devices. -/
theorem everyone (c : Dev nD) : [c, peer 0 c, peer 1 c, peer 0 (peer 1 c), peer 2 c, peer 0 (peer 2 c), peer 1 (peer 2 c), peer 0 (peer 1 (peer 2 c))].Perm
    (List.finRange 8) := by
  revert c; decide

omit H in
/-- After the last exchange every device has the sum of all parts. -/
theorem acc_all (h : Fin 2) (c : Dev nD) (i : S128x256.Idx) : acc m 3 h c i = ∑ d : Fin 8, (part m h d i : EReal) := by
  have e : acc m 3 h c i = (((part m h c i : EReal) + part m h (peer 0 c) i) + (part m h (peer 1 c) i + part m h (peer 0 (peer 1 c)) i))
      + ((part m h (peer 2 c) i + part m h (peer 0 (peer 2 c)) i) + (part m h (peer 1 (peer 2 c)) i + part m h (peer 0 (peer 1 (peer 2 c))) i)) := rfl
  have l := ((everyone c).map (fun d => (part m h d i : EReal))).sum_eq
  rw [e, Fin.sum_univ_def, ← l]
  simp only [List.map_cons, List.map_nil, List.sum_cons, List.sum_nil, add_zero, add_assoc]

/-- The result on every device. -/
theorem outAt_apply (c : Dev nD) (t b : Fin 256) : outAt m c (ix2 t b) = mixture x r p w s t b := by
  have hx : inX m c = x := (inX_eq m c).trans (H.tokens c)
  have hs : inS m c = s := (inS_eq m c).trans (H.shared c)
  have sum (h : Fin 2) (a : Fin 128) : acc m 3 h c (ix2 a b) = ∑ e : Fin 16, adds x r (p (ix2 (row h a) 0)) w (row h a) b e := by
    rw [acc_all, ← sum_pairs]
    exact Finset.sum_congr rfl fun d _ => part_apply H h d a b
  have sh (a : Fin 256) : shared m c (ix2 a b) = ∑ k : Fin 128, x (ix2 a k) * s (ix2 k b) := by
    unfold shared; rw [hx, hs]; exact pay_shared x s a b
  by_cases ht : t.val < 128
  · have et : t = row 0 ⟨t.val, ht⟩ := Fin.ext (by show t.val = 128 * 0 + t.val; omega)
    have ei : (ix2 t b : S256x256.Idx) = rowsLo.emb (ix2 ⟨t.val, ht⟩ b : S128x256.Idx) := by
      funext a
      match a with
      | ⟨0, _⟩ => exact Fin.ext (by show t.val = 0 + 1 * t.val; omega)
      | ⟨1, _⟩ => exact Fin.ext (by show b.val = 0 + 1 * b.val; omega)
    have e : outAt m c (ix2 t b) = (acc m 3 0 c (ix2 ⟨t.val, ht⟩ b) : EReal) + shared m c (ix2 t b) := by
      rw [ei]
      unfold outAt
      rw [halves_lo, ← ei]
      pointwise [k0_pay27]
    rw [e, sum, sh, ← et, add_comm]
    rfl
  · have hl : t.val - 128 < 128 := by omega
    have et : t = row 1 ⟨t.val - 128, hl⟩ := Fin.ext (by show t.val = 128 * 1 + (t.val - 128); omega)
    have ei : (ix2 t b : S256x256.Idx) = rowsHi.emb (ix2 ⟨t.val - 128, hl⟩ b : S128x256.Idx) := by
      funext a
      match a with
      | ⟨0, _⟩ => exact Fin.ext (by show t.val = 128 + 1 * (t.val - 128); omega)
      | ⟨1, _⟩ => exact Fin.ext (by show b.val = 0 + 1 * b.val; omega)
    have e : outAt m c (ix2 t b) = (acc m 3 1 c (ix2 ⟨t.val - 128, hl⟩ b) : EReal) + shared m c (ix2 t b) := by
      rw [ei]
      unfold outAt
      rw [halves_hi, ← ei]
      pointwise [k0_pay1]
      have back : (⟨128 + (t.val - 128), by omega⟩ : Fin 256) = t := Fin.ext (by show 128 + (t.val - 128) = t.val; omega)
      rw [back]
    rw [e, sum, sh, ← et, add_comm]
    rfl

end Sums

end Cert.Exchange

end
-- ==== Proof.RefValue.lean ====
/-
# What the reference computes

Read at a row and a column, the reference's result is the plain mixture.
-/
module

public import proofs.«01_k».proof.Proof.Gen.ReferenceIdeal.Run
public import proofs.«01_k».proof.Proof.Mixture

@[expose] public section

noncomputable section

namespace Cert.Exchange.Ref

open Cert.ReferenceIdeal Cert.ReferenceIdeal.Gen Cert.ReferenceIdeal.Value
open Idealize.ShloMosaic Idealize.ShloMosaic.TcCoe

/-- A row's weight picked along the row. -/
theorem gather_weight {α : Type} (x : S256x16.Idx → α) (idx : IVec S256x1x1 32) (a : Fin 256) :
    Host.gather gather_S256x16_S256x1x1_S256x1_n_1_0_0_1_2_11 x idx (ix2 a 0) = x (ix2 a ⟨min (idx (ix3 a 0 0)).toInt.toNat 15, by omega⟩) := by
  unfold Host.gather
  refine congrArg x (funext fun b => Fin.ext ?_)
  match b with
  | ⟨0, _⟩ => show 0 + a.val + 0 = a.val; omega
  | ⟨1, _⟩ =>
    refine congrArg (fun i => min (idx i).toInt.toNat 15) (funext fun b => Fin.ext ?_)
    match b with
    | ⟨0, _⟩ => rfl
    | ⟨1, _⟩ => rfl
    | ⟨2, _⟩ => rfl

/-- A row's expert picked among the sixteen. -/
theorem gather_expert {α : Type} (x : S16x128x256.Idx → α) (idx : IVec S256x1 32) (a : Fin 256) (k : Fin 128) (b : Fin 256) :
    Host.gather gather_S16x128x256_S256x1_S256x128x256_12_0_n_n_0_1_1128256 x idx (ix3 a k b)
      = x (ix3 ⟨min (idx (ix2 a 0)).toInt.toNat 15, by omega⟩ k b) := by
  unfold Host.gather
  refine congrArg x (funext fun d => Fin.ext ?_)
  match d with
  | ⟨0, _⟩ =>
    refine congrArg (fun i => min (idx i).toInt.toNat 15) (funext fun b => Fin.ext ?_)
    match b with
    | ⟨0, _⟩ => rfl
    | ⟨1, _⟩ => rfl
  | ⟨1, _⟩ => show _ + k.val = _; exact Nat.zero_add _
  | ⟨2, _⟩ => show _ + b.val = _; exact Nat.zero_add _

/-- The test for an index that names an expert, passed. -/
theorem named_in (p : BitVec 32) (h : p.toNat < 16) :
    IntOp.andi (IntOp.cmpi CmpIPredicate.sge p 0#32) (IntOp.cmpi CmpIPredicate.slt p 16#32) = 1#1 := by
  obtain ⟨n, hn, rfl⟩ : ∃ n, n < 16 ∧ p = BitVec.ofNat 32 n := ⟨p.toNat, h, by simp⟩
  interval_cases n <;> rfl

/-- The test failed. -/
theorem named_out (p : BitVec 32) (h : ¬ p.toNat < 16) :
    IntOp.andi (IntOp.cmpi CmpIPredicate.sge p 0#32) (IntOp.cmpi CmpIPredicate.slt p 16#32) = 0#1 := by
  have hc : ¬ (0 ≤ p.toInt ∧ p.toInt < 16) := by
    rw [BitVec.toInt_eq_toNat_cond]
    have := p.isLt
    split <;> omega
  simp only [IntOp.cmpi, BitVec.sle, BitVec.slt, IntOp.andi]
  have h0 : (0#32).toInt = 0 := rfl
  have h1 : (16#32).toInt = 16 := rfl
  rw [h0, h1]
  by_cases h2 : 0 ≤ p.toInt
  · have h3 : ¬ p.toInt < 16 := fun h3 => hc ⟨h2, h3⟩
    simp [h2, h3]
  · simp [h2]

theorem not_negative (p : BitVec 32) (h : p.toNat < 16) : IntOp.cmpi CmpIPredicate.slt p 0#32 = 0#1 := by
  obtain ⟨n, hn, rfl⟩ : ∃ n, n < 16 ∧ p = BitVec.ofNat 32 n := ⟨p.toNat, h, by simp⟩
  interval_cases n <;> rfl

theorem start_in (p : BitVec 32) (h : p.toNat < 16) : min p.toInt.toNat 15 = p.toNat := by
  rw [BitVec.toInt_eq_toNat_cond]
  split <;> omega

set_option maxRecDepth 16384 in
set_option maxHeartbeats 2000000 in
theorem value (m : (ℓ : Loc nD τ sig) → Buf (Elt Ideal) ℓ) (c : Dev nD) (a b : Fin 256) :
    res_main_v29 m c (ix2 a b) = mixture (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) a b := by
  pointwise [res_main_v29, gather_weight, gather_expert]
  unfold mixture
  generalize m ((c.tc : Thread nD τ).loc main_arg0) = x
  generalize m ((c.tc : Thread nD τ).loc main_arg1) = r
  generalize m ((c.tc : Thread nD τ).loc main_arg3) = w
  generalize m ((c.tc : Thread nD τ).loc main_arg4) = s
  obtain ⟨p, hp⟩ : ∃ p : BitVec 32, m ((c.tc : Thread nD τ).loc main_arg2) (ix2 a 0) = p := ⟨_, rfl⟩
  simp only [hp]
  refine congrArg (_ + ·) ?_
  by_cases h : p.toNat < 16
  · rw [sum_adds_in x r p w a b h]
    simp only [named_in p h, ValueIdx.select_one, not_negative p h, ValueIdx.select_zero, start_in p h]
    rfl
  · rw [sum_adds_out x r p w a b h]
    simp only [named_out p h, ValueIdx.select_zero]
    exact Ideal.ofBits_zero_f32

end Cert.Exchange.Ref

end
-- ==== Proof.Agree.lean ====
/-
# The kernel and the reference agree

Over exact numbers both end with the same mixture, on every device.
-/
module

public import proofs.«01_k».proof.Proof.Frames
public import proofs.«01_k».proof.Proof.Sums
public import proofs.«01_k».proof.Proof.RefValue

@[expose] public section

namespace Cert.Exchange

open Idealize.ShloMosaic Idealize.ShloMosaic.TcCoe Idealize.SL.Sem
open Cert.KernelIdeal Cert.KernelIdeal.Gen

theorem algebraic : Cert.algebraic_KernelIdeal_ReferenceIdeal := fun m g m' g' _ hin => by
  have H : Holds m _ _ _ _ _ :=
    ⟨fun c => (hin c).1, fun c => (hin c).2.1, fun c => (hin c).2.2.1, fun c => (hin c).2.2.2.1, fun c => (hin c).2.2.2.2⟩
  have same (c : Dev nD) : finalA m g c 5 = Cert.ReferenceIdeal.Value.res_main_v29 m' 0 := by
    rw [final_out]
    funext i
    rw [eq_ix2 i]
    exact (outAt_apply H c (i 0) (i 1)).trans (Ref.value m' 0 (i 0) (i 1)).symm
  refine ⟨Cert.ReferenceIdeal.Value.res_main_v29 m' 0, ?_, ?_⟩
  · exact (θ_run defs _ _).mono (fun r h c => ⟨(h.1 c 5).trans (same c), kept m g h.1 c⟩) (run_main m g)
  · exact (θ_run Cert.ReferenceIdeal.defs _ _).mono (fun r h => h 0) (Cert.ReferenceIdeal.Value.run (F := Ideal) m' g')

end Cert.Exchange
-- ==== Proof.lean ====
/-
# The claims

The three frames, the idealization that rewrites nothing, and the agreement with the reference.
-/
module

public import proofs.«01_k».proof.Defs
public import proofs.«01_k».proof.Proof.Agree

@[expose] public section

noncomputable section

namespace Cert.Proof

open Cert.Exchange

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
